-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_as_projected [hPre_as_projected : Cert.Pre_as_projected.Facts] (m : (ℓ : Loc Cert.AttnIdeal.nD Cert.AttnIdeal.τ Cert.AttnIdeal.sig) → Buf (Elt Ideal) ℓ) : Prop :=
  ∀ c : Dev Cert.AttnIdeal.nD,
    (Cert.Pre_as_projected.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_as_projected [hPre_as_projected : Cert.Pre_as_projected.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_as_projected.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_as_projected [hAttnIdeal : Cert.AttnIdeal.Facts] [hPre_as_projected : Cert.Pre_as_projected.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_as_projected m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_as_projected [hAttnRefIdeal : Cert.AttnRefIdeal.Facts] [hPre_as_projected : Cert.Pre_as_projected.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_as_projected m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2)
      ∧ r.2.mem ((c.tc : Thread Cert.Modul.nD Cert.Modul.τ).loc Cert.Modul.main_arg3) = m ((c.tc : Thread Cert.Modul.nD Cert.Modul.τ).loc Cert.Modul.main_arg3))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2)
      ∧ r.2.mem ((c.tc : Thread Cert.ModulIdeal.nD Cert.ModulIdeal.τ).loc Cert.ModulIdeal.main_arg3) = m ((c.tc : Thread Cert.ModulIdeal.nD Cert.ModulIdeal.τ).loc Cert.ModulIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def preserves_Attn_AttnIdeal : Prop :=
  IdealRules.named_const.Statement Cert.AttnIdeal.κ "mask" .f32 0xF149F2CA#32 ⊥

def preserves_Ffn_FfnIdeal : Prop :=
  True

def preserves_Outproj_OutprojIdeal : Prop :=
  True

def preserves_Modul_ModulIdeal : Prop :=
  True

def preserves_Inproj_InprojIdeal : Prop :=
  True

def algebraic_AttnIdeal_AttnRefIdeal_pre_as_projected [hAttnIdeal : Cert.AttnIdeal.Facts] [hAttnRefIdeal : Cert.AttnRefIdeal.Facts] [hPre_as_projected : Cert.Pre_as_projected.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_as_projected m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v88) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def algebraic_OutprojIdeal_OutRefIdeal [hOutprojIdeal : Cert.OutprojIdeal.Facts] [hOutRefIdeal : Cert.OutRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutprojIdeal m →
    (∀ c : Dev Cert.OutprojIdeal.nD,
      m' ((c.tc : Thread Cert.OutRefIdeal.nD Cert.OutRefIdeal.τ).loc Cert.OutRefIdeal.main_arg0) = m ((c.tc : Thread Cert.OutprojIdeal.nD Cert.OutprojIdeal.τ).loc Cert.OutprojIdeal.main_arg0)
      ∧ m' ((c.tc : Thread Cert.OutRefIdeal.nD Cert.OutRefIdeal.τ).loc Cert.OutRefIdeal.main_arg1) = m ((c.tc : Thread Cert.OutprojIdeal.nD Cert.OutprojIdeal.τ).loc Cert.OutprojIdeal.main_arg1)
      ∧ m' ((c.tc : Thread Cert.OutRefIdeal.nD Cert.OutRefIdeal.τ).loc Cert.OutRefIdeal.main_arg2) = m ((c.tc : Thread Cert.OutprojIdeal.nD Cert.OutprojIdeal.τ).loc Cert.OutprojIdeal.main_arg2)
      ∧ m' ((c.tc : Thread Cert.OutRefIdeal.nD Cert.OutRefIdeal.τ).loc Cert.OutRefIdeal.main_arg3) = m ((c.tc : Thread Cert.OutprojIdeal.nD Cert.OutprojIdeal.τ).loc Cert.OutprojIdeal.main_arg3)
      ∧ m' ((c.tc : Thread Cert.OutRefIdeal.nD Cert.OutRefIdeal.τ).loc Cert.OutRefIdeal.main_arg4) = m ((c.tc : Thread Cert.OutprojIdeal.nD Cert.OutprojIdeal.τ).loc Cert.OutprojIdeal.main_arg4)
      ∧ m' ((c.tc : Thread Cert.OutRefIdeal.nD Cert.OutRefIdeal.τ).loc Cert.OutRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v2_0)) (v1 : (c : Dev Cert.OutprojIdeal.nD) → Buf (Elt Ideal) ((c.tc : Thread Cert.OutprojIdeal.nD Cert.OutprojIdeal.τ).loc Cert.OutprojIdeal.main_v2_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2_0) = v0 c
          ∧ r.2.mem ((c.tc : Thread Cert.OutprojIdeal.nD Cert.OutprojIdeal.τ).loc Cert.OutprojIdeal.main_v2_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v9) = v0 c
          ∧ r.2.mem ((c.tc : Thread Cert.OutRefIdeal.nD Cert.OutRefIdeal.τ).loc Cert.OutRefIdeal.main_v29) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def algebraic_ModulIdeal_ModRefIdeal [hModulIdeal : Cert.ModulIdeal.Facts] [hModRefIdeal : Cert.ModRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModulIdeal m →
    (∀ c : Dev Cert.ModulIdeal.nD,
      m' ((c.tc : Thread Cert.ModRefIdeal.nD Cert.ModRefIdeal.τ).loc Cert.ModRefIdeal.main_arg0) = m ((c.tc : Thread Cert.ModulIdeal.nD Cert.ModulIdeal.τ).loc Cert.ModulIdeal.main_arg0)
      ∧ m' ((c.tc : Thread Cert.ModRefIdeal.nD Cert.ModRefIdeal.τ).loc Cert.ModRefIdeal.main_arg1) = m ((c.tc : Thread Cert.ModulIdeal.nD Cert.ModulIdeal.τ).loc Cert.ModulIdeal.main_arg1)
      ∧ m' ((c.tc : Thread Cert.ModRefIdeal.nD Cert.ModRefIdeal.τ).loc Cert.ModRefIdeal.main_arg2) = m ((c.tc : Thread Cert.ModulIdeal.nD Cert.ModulIdeal.τ).loc Cert.ModulIdeal.main_arg2)
      ∧ m' ((c.tc : Thread Cert.ModRefIdeal.nD Cert.ModRefIdeal.τ).loc Cert.ModRefIdeal.main_arg3) = m ((c.tc : Thread Cert.ModulIdeal.nD Cert.ModulIdeal.τ).loc Cert.ModulIdeal.main_arg3)) →
    ∃ (v0 : (c : Dev Cert.ModulIdeal.nD) → Buf (Elt Ideal) ((c.tc : Thread Cert.ModulIdeal.nD Cert.ModulIdeal.τ).loc Cert.ModulIdeal.main_v4)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v4) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2)
          ∧ r.2.mem ((c.tc : Thread Cert.ModulIdeal.nD Cert.ModulIdeal.τ).loc Cert.ModulIdeal.main_arg3) = m ((c.tc : Thread Cert.ModulIdeal.nD Cert.ModulIdeal.τ).loc Cert.ModulIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v7) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hOutproj : Cert.Outproj.Facts) (hOutprojIdeal : Cert.OutprojIdeal.Facts) (hOutRefIdeal : Cert.OutRefIdeal.Facts) (hModul : Cert.Modul.Facts) (hModulIdeal : Cert.ModulIdeal.Facts) (hModRefIdeal : Cert.ModRefIdeal.Facts) (hInproj : Cert.Inproj.Facts) (hInprojIdeal : Cert.InprojIdeal.Facts) (hInRefIdeal : Cert.InRefIdeal.Facts) (hPre_as_projected : Cert.Pre_as_projected.Facts),
    quiescent_Attn (hAttn := hAttn)
    ∧ quiescent_AttnIdeal (hAttnIdeal := hAttnIdeal)
    ∧ quiescent_AttnIdeal_pre_as_projected (hAttnIdeal := hAttnIdeal) (hPre_as_projected := hPre_as_projected)
    ∧ quiescent_AttnRefIdeal (hAttnRefIdeal := hAttnRefIdeal)
    ∧ quiescent_AttnRefIdeal_pre_as_projected (hAttnRefIdeal := hAttnRefIdeal) (hPre_as_projected := hPre_as_projected)
    ∧ quiescent_Ffn (hFfn := hFfn)
    ∧ quiescent_FfnIdeal (hFfnIdeal := hFfnIdeal)
    ∧ quiescent_FfnRefIdeal (hFfnRefIdeal := hFfnRefIdeal)
    ∧ quiescent_Outproj (hOutproj := hOutproj)
    ∧ quiescent_OutprojIdeal (hOutprojIdeal := hOutprojIdeal)
    ∧ quiescent_OutRefIdeal (hOutRefIdeal := hOutRefIdeal)
    ∧ quiescent_Modul (hModul := hModul)
    ∧ quiescent_ModulIdeal (hModulIdeal := hModulIdeal)
    ∧ quiescent_ModRefIdeal (hModRefIdeal := hModRefIdeal)
    ∧ quiescent_Inproj (hInproj := hInproj)
    ∧ quiescent_InprojIdeal (hInprojIdeal := hInprojIdeal)
    ∧ quiescent_InRefIdeal (hInRefIdeal := hInRefIdeal)
    ∧ preserves_Attn_AttnIdeal
    ∧ preserves_Ffn_FfnIdeal
    ∧ preserves_Outproj_OutprojIdeal
    ∧ preserves_Modul_ModulIdeal
    ∧ preserves_Inproj_InprojIdeal
    ∧ algebraic_AttnIdeal_AttnRefIdeal_pre_as_projected (hAttnIdeal := hAttnIdeal) (hAttnRefIdeal := hAttnRefIdeal) (hPre_as_projected := hPre_as_projected)
    ∧ algebraic_FfnIdeal_FfnRefIdeal (hFfnIdeal := hFfnIdeal) (hFfnRefIdeal := hFfnRefIdeal)
    ∧ algebraic_OutprojIdeal_OutRefIdeal (hOutprojIdeal := hOutprojIdeal) (hOutRefIdeal := hOutRefIdeal)
    ∧ algebraic_ModulIdeal_ModRefIdeal (hModulIdeal := hModulIdeal) (hModRefIdeal := hModRefIdeal)
-- ==== Pre_as_projected.lean ====
abbrev S8x2304x512 : Shape := ⟨3, ![8, 2304, 512]⟩
abbrev S8x2304x256 : Shape := ⟨3, ![8, 2304, 256]⟩
abbrev S8 : Shape := ⟨1, ![8]⟩
abbrev S_ : Shape := ⟨0, ![]⟩
abbrev S8x1x1 : Shape := ⟨3, ![8, 1, 1]⟩
abbrev S8x2304x128 : Shape := ⟨3, ![8, 2304, 128]⟩
abbrev S8x2304x64 : Shape := ⟨3, ![8, 2304, 64]⟩
abbrev S8x2304x768 : Shape := ⟨3, ![8, 2304, 768]⟩

class Facts : Prop where
  bitsLt_bf16_f32 : FTy.bits .bf16 < FTy.bits .f32
  bcast_S_S8x2304x512 : S_.BroadcastsInDim S8x2304x512 (![] : Fin 0 → Fin S8x2304x512.rank)
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x2304x512_0_1_2 : S8x1x1.BroadcastsInDim S8x2304x512 (![0, 1, 2] : Fin 3 → Fin S8x2304x512.rank)
  bcast_S_S8x2304x256 : S_.BroadcastsInDim S8x2304x256 (![] : Fin 0 → Fin S8x2304x256.rank)
  slices_S8x2304x256_S8x2304x128_0_0_0 : S8x2304x256.Slices ![0, 0, 0] S8x2304x128
  slices_S8x2304x256_S8x2304x64_0_0_64 : S8x2304x256.Slices ![0, 0, 64] S8x2304x64
  slices_S8x2304x256_S8x2304x64_0_0_0 : S8x2304x256.Slices ![0, 0, 0] S8x2304x64
  concatenates_S8x2304x128_S8x2304x64_S8x2304x64_S8x2304x256_d2 : Shape.Concatenates [S8x2304x128, S8x2304x64, S8x2304x64] S8x2304x256 2
  concatenates_S8x2304x512_S8x2304x256_S8x2304x768_d2 : Shape.Concatenates [S8x2304x512, S8x2304x256] S8x2304x768 2

variable [Facts]

def fn_part1 {F : FTy → Type} [FloatOps F] (main_arg2 : FVec F S8x2304x256 .bf16) (main_v9 : IVec S8x2304x512 1) (main_v20 : IVec S8x2304x256 1) : IVec S8x2304x768 1 :=
  let main_v21 : FVec F S8x2304x256 .f32 := (extf .f32 · bitsLt_bf16_f32) main_arg2
  let main_v22 : FVec F S8x2304x128 .f32 := (extractStridedSlice S8x2304x128 ![0, 0, 0] · slices_S8x2304x256_S8x2304x128_0_0_0) main_v21
  let main_v23 : FVec F S8x2304x64 .f32 := (extractStridedSlice S8x2304x64 ![0, 0, 64] · slices_S8x2304x256_S8x2304x64_0_0_64) main_v21
  let main_v24 : FVec F S8x2304x64 .f32 := (extractStridedSlice S8x2304x64 ![0, 0, 0] · slices_S8x2304x256_S8x2304x64_0_0_0) main_v21
  let main_v25 : FVec F S8x2304x256 .f32 := concatenate S8x2304x256 2 [⟨S8x2304x128, main_v22⟩, ⟨S8x2304x64, main_v23⟩, ⟨S8x2304x64, main_v24⟩] concatenates_S8x2304x128_S8x2304x64_S8x2304x64_S8x2304x256_d2
  let main_v26 : IVec S8x2304x256 1 := cmpf .oeq main_v21 main_v25
  let main_v27 : IVec S8x2304x256 1 := andi main_v20 main_v26
  let main_v28 : IVec S8x2304x768 1 := (fun a b => concatenate S8x2304x768 2 [⟨S8x2304x512, a⟩, ⟨S8x2304x256, b⟩] concatenates_S8x2304x512_S8x2304x256_S8x2304x768_d2) main_v9 main_v27
  main_v28

def fn {F : FTy → Type} [FloatOps F] (main_arg0 : FVec F S8x2304x512 .bf16) (main_arg1 : FVec F S8x2304x256 .bf16) (main_arg2 : FVec F S8x2304x256 .bf16) (main_arg3 : FVec F S8 .f32) : IVec S8x2304x768 1 :=
  let main_v0 : FVec F S8x2304x512 .f32 := (extf .f32 · bitsLt_bf16_f32) main_arg0
  let main_v1 : FVec F S8x2304x512 .f32 := Host.absf main_v0
  let main_cst : FVec F S_ .f32 := constant S_ .f32 0x7F800000#32
  let main_v2 : FVec F S8x2304x512 .f32 := broadcastInDim S8x2304x512 ![] bcast_S_S8x2304x512 main_cst
  let main_v3 : IVec S8x2304x512 1 := cmpf .olt main_v1 main_v2
  let main_v4 : FVec F S8 .f32 := Host.absf main_arg3
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_v7 : IVec S8x1x1 1 := broadcastInDim S8x1x1 ![0] bcast_S8_S8x1x1_0 main_v6
  let main_v8 : IVec S8x2304x512 1 := broadcastInDim S8x2304x512 ![0, 1, 2] bcast_S8x1x1_S8x2304x512_0_1_2 main_v7
  let main_v9 : IVec S8x2304x512 1 := andi main_v3 main_v8
  let main_v10 : FVec F S8x2304x256 .f32 := (extf .f32 · bitsLt_bf16_f32) main_arg1
  let main_v11 : FVec F S8x2304x256 .f32 := Host.absf main_v10
  let main_cst_1 : FVec F S_ .f32 := constant S_ .f32 0x7F800000#32
  let main_v12 : FVec F S8x2304x256 .f32 := broadcastInDim S8x2304x256 ![] bcast_S_S8x2304x256 main_cst_1
  let main_v13 : IVec S8x2304x256 1 := cmpf .olt main_v11 main_v12
  let main_v14 : FVec F S8x2304x256 .f32 := (extf .f32 · bitsLt_bf16_f32) main_arg1
  let main_v15 : FVec F S8x2304x128 .f32 := (extractStridedSlice S8x2304x128 ![0, 0, 0] · slices_S8x2304x256_S8x2304x128_0_0_0) main_v14
  let main_v16 : FVec F S8x2304x64 .f32 := (extractStridedSlice S8x2304x64 ![0, 0, 64] · slices_S8x2304x256_S8x2304x64_0_0_64) main_v14
  let main_v17 : FVec F S8x2304x64 .f32 := (extractStridedSlice S8x2304x64 ![0, 0, 0] · slices_S8x2304x256_S8x2304x64_0_0_0) main_v14
  let main_v18 : FVec F S8x2304x256 .f32 := concatenate S8x2304x256 2 [⟨S8x2304x128, main_v15⟩, ⟨S8x2304x64, main_v16⟩, ⟨S8x2304x64, main_v17⟩] concatenates_S8x2304x128_S8x2304x64_S8x2304x64_S8x2304x256_d2
  let main_v19 : IVec S8x2304x256 1 := cmpf .oeq main_v14 main_v18
  let main_v20 : IVec S8x2304x256 1 := andi main_v13 main_v19
  fn_part1 (F := F) main_arg2 main_v9 main_v20
-- ==== Attn.lean ====
abbrev S8x2304x512 : Shape := ⟨3, ![8, 2304, 512]⟩
abbrev S8x2304x256 : Shape := ⟨3, ![8, 2304, 256]⟩
abbrev S8 : Shape := ⟨1, ![8]⟩
abbrev S8x2048x512 : Shape := ⟨3, ![8, 2048, 512]⟩
abbrev S1x128x512 : Shape := ⟨3, ![1, 128, 512]⟩
abbrev S1x128x256 : Shape := ⟨3, ![1, 128, 256]⟩
abbrev S1x256x256 : Shape := ⟨3, ![1, 256, 256]⟩
abbrev S128x256 : Shape := ⟨2, ![128, 256]⟩
abbrev S256x256 : Shape := ⟨2, ![256, 256]⟩
abbrev S640x256 : Shape := ⟨2, ![640, 256]⟩
abbrev S128x640 : Shape := ⟨2, ![128, 640]⟩
abbrev S640x128 : Shape := ⟨2, ![640, 128]⟩
abbrev S128x512 : Shape := ⟨2, ![128, 512]⟩
abbrev S128x128 : Shape := ⟨2, ![128, 128]⟩
abbrev S256x128 : Shape := ⟨2, ![256, 128]⟩
abbrev S256x640 : Shape := ⟨2, ![256, 640]⟩
abbrev S1 : Shape := ⟨1, ![1]⟩
abbrev S128 : Shape := ⟨1, ![128]⟩
abbrev S128x1 : Shape := ⟨2, ![128, 1]⟩
abbrev S1x128x128 : Shape := ⟨3, ![1, 128, 128]⟩

abbrev nBuf : Space → Nat
  | .hbm => 5
  | .vmem => 20
  | .smem => 1
  | _ => 0

abbrev bufTy : (tb : Table) → Fin (tcTables nBuf tb) → BufTy
  | .hbm, ⟨0, _⟩ => ⟨S8x2304x512, .bf16⟩
  | .hbm, ⟨1, _⟩ => ⟨S8x2304x256, .bf16⟩
  | .hbm, ⟨2, _⟩ => ⟨S8x2304x256, .bf16⟩
  | .hbm, ⟨3, _⟩ => ⟨S8, .f32⟩
  | .hbm, ⟨4, _⟩ => ⟨S8x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S8x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.addi v1 c2_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c2_i32 : BitVec 32 := 2#32
  let v2 : BitVec 32 := Scalar.addi v1 c2_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let v2 : BitVec 32 := Scalar.addi v1 c2_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c2_i32 : BitVec 32 := 2#32
  let v2 : BitVec 32 := Scalar.addi v1 c2_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x2304x512 : Shape := ⟨3, ![8, 2304, 512]⟩
abbrev S8x2304x256 : Shape := ⟨3, ![8, 2304, 256]⟩
abbrev S8 : Shape := ⟨1, ![8]⟩
abbrev S8x2048x512 : Shape := ⟨3, ![8, 2048, 512]⟩
abbrev S8x2304x128 : Shape := ⟨3, ![8, 2304, 128]⟩
abbrev S8x2304x2x64 : Shape := ⟨4, ![8, 2304, 2, 64]⟩
abbrev S8x2304x2x4x64 : Shape := ⟨5, ![8, 2304, 2, 4, 64]⟩
abbrev S8x2304x8x64 : Shape := ⟨4, ![8, 2304, 8, 64]⟩
abbrev S8x256x8x64 : Shape := ⟨4, ![8, 256, 8, 64]⟩
abbrev S8x2048x8x64 : Shape := ⟨4, ![8, 2048, 8, 64]⟩
abbrev S8x16x128x8x64 : Shape := ⟨5, ![8, 16, 128, 8, 64]⟩
abbrev S_ : Shape := ⟨0, ![]⟩
abbrev S8x18x128x8x64 : Shape := ⟨5, ![8, 18, 128, 8, 64]⟩
abbrev S8x16x384x8x64 : Shape := ⟨5, ![8, 16, 384, 8, 64]⟩
abbrev S8x16x8x128x384 : Shape := ⟨5, ![8, 16, 8, 128, 384]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S384 : Shape := ⟨1, ![384]⟩
abbrev S1x1x384 : Shape := ⟨3, ![1, 1, 384]⟩
abbrev S16x128x1 : Shape := ⟨3, ![16, 128, 1]⟩
abbrev S16x1x384 : Shape := ⟨3, ![16, 1, 384]⟩
abbrev S16x128x384 : Shape := ⟨3, ![16, 128, 384]⟩
abbrev S1x16x1x128x384 : Shape := ⟨5, ![1, 16, 1, 128, 384]⟩
abbrev S8x8x256x16x128 : Shape := ⟨5, ![8, 8, 256, 16, 128]⟩
abbrev S8x16x8x128x256 : Shape := ⟨5, ![8, 16, 8, 128, 256]⟩
abbrev S1x1x8x1x1 : Shape := ⟨5, ![1, 1, 8, 1, 1]⟩
abbrev S8x16x8x128x1 : Shape := ⟨5, ![8, 16, 8, 128, 1]⟩
abbrev S8x16x8x128x641 : Shape := ⟨5, ![8, 16, 8, 128, 641]⟩
abbrev S8x16x8x128 : Shape := ⟨4, ![8, 16, 8, 128]⟩
abbrev S8x16x8x64x128 : Shape := ⟨5, ![8, 16, 8, 64, 128]⟩
abbrev S8x8x64x16x128 : Shape := ⟨5, ![8, 8, 64, 16, 128]⟩

abbrev nBuf : Space → Nat
  | .hbm => 110
  | .vmem => 0
  | .smem => 0
  | _ => 0

abbrev bufTy : (tb : Table) → Fin (tcTables nBuf tb) → BufTy
  | .hbm, ⟨0, _⟩ => ⟨S8x2304x512, .bf16⟩
  | .hbm, ⟨1, _⟩ => ⟨S8x2304x256, .bf16⟩
  | .hbm, ⟨2, _⟩ => ⟨S8x2304x256, .bf16⟩
  | .hbm, ⟨3, _⟩ => ⟨S8, .f32⟩
  | .hbm, ⟨4, _⟩ => ⟨S8x2304x512, .f32⟩
  | .hbm, ⟨5, _⟩ => ⟨S8x2048x512, .f32⟩
  | .hbm, ⟨6, _⟩ => ⟨S8x2304x256, .f32⟩
  | .hbm, ⟨7, _⟩ => ⟨S8x2304x128, .f32⟩
  | .hbm, ⟨8, _⟩ => ⟨S8x2304x256, .f32⟩
  | .hbm, ⟨9, _⟩ => ⟨S8x2304x128, .f32⟩
  | .hbm, ⟨10, _⟩ => ⟨S8x2304x2x64, .f32⟩
  | .hbm, ⟨11, _⟩ => ⟨S8x2304x2x4x64, .f32⟩
  | .hbm, ⟨12, _⟩ => ⟨S8x2304x8x64, .f32⟩
  | .hbm, ⟨13, _⟩ => ⟨S8x2304x2x64, .f32⟩
  | .hbm, ⟨14, _⟩ => ⟨S8x2304x2x4x64, .f32⟩
  | .hbm, ⟨15, _⟩ => ⟨S8x2304x8x64, .f32⟩
  | .hbm, ⟨16, _⟩ => ⟨S8x256x8x64, .f32⟩
  | .hbm, ⟨17, _⟩ => ⟨S8x256x8x64, .f32⟩
  | .hbm, ⟨18, _⟩ => ⟨S8x2048x8x64, .f32⟩
  | .hbm, ⟨19, _⟩ => ⟨S8x2048x8x64, .f32⟩
  | .hbm, ⟨20, _⟩ => ⟨S8x16x128x8x64, .f32⟩
  | .hbm, ⟨21, _⟩ => ⟨S_, .i32⟩
  | .hbm, ⟨22, _⟩ => ⟨S_, .f32⟩
  | .hbm, ⟨23, _⟩ => ⟨S8x2304x8x64, .f32⟩
  | .hbm, ⟨24, _⟩ => ⟨S8x18x128x8x64, .f32⟩
  | .hbm, ⟨25, _⟩ => ⟨S8x16x128x8x64, .f32⟩
  | .hbm, ⟨26, _⟩ => ⟨S8x16x128x8x64, .f32⟩
  | .hbm, ⟨27, _⟩ => ⟨S8x16x128x8x64, .f32⟩
  | .hbm, ⟨28, _⟩ => ⟨S8x16x384x8x64, .f32⟩
  | .hbm, ⟨29, _⟩ => ⟨S_, .i32⟩
  | .hbm, ⟨30, _⟩ => ⟨S_, .f32⟩
  | .hbm, ⟨31, _⟩ => ⟨S8x2304x8x64, .f32⟩
  | .hbm, ⟨32, _⟩ => ⟨S8x18x128x8x64, .f32⟩
  | .hbm, ⟨33, _⟩ => ⟨S8x16x128x8x64, .f32⟩
  | .hbm, ⟨34, _⟩ => ⟨S8x16x128x8x64, .f32⟩
  | .hbm, ⟨35, _⟩ => ⟨S8x16x128x8x64, .f32⟩
  | .hbm, ⟨36, _⟩ => ⟨S8x16x384x8x64, .f32⟩
  | .hbm, ⟨37, _⟩ => ⟨S8x16x8x128x384, .f32⟩
  | .hbm, ⟨38, _⟩ => ⟨S16, .i32⟩
  | .hbm, ⟨39, _⟩ => ⟨S16x1x1, .i32⟩
  | .hbm, ⟨40, _⟩ => ⟨S128, .i32⟩
  | .hbm, ⟨41, _⟩ => ⟨S1x128x1, .i32⟩
  | .hbm, ⟨42, _⟩ => ⟨S384, .i32⟩
  | .hbm, ⟨43, _⟩ => ⟨S1x1x384, .i32⟩
  | .hbm, ⟨44, _⟩ => ⟨S_, .i32⟩
  | .hbm, ⟨45, _⟩ => ⟨S16x1x1, .i32⟩
  | .hbm, ⟨46, _⟩ => ⟨S16x1x1, .i32⟩
  | .hbm, ⟨47, _⟩ => ⟨S16x128x1, .i32⟩
  | .hbm, ⟨48, _⟩ => ⟨S16x128x1, .i32⟩
  | .hbm, ⟨49, _⟩ => ⟨S16x128x1, .i32⟩
  | .hbm, ⟨50, _⟩ => ⟨S_, .i32⟩
  | .hbm, ⟨51, _⟩ => ⟨S16x1x1, .i32⟩
  | .hbm, ⟨52, _⟩ => ⟨S16x1x1, .i32⟩
  | .hbm, ⟨53, _⟩ => ⟨S_, .i32⟩
  | .hbm, ⟨54, _⟩ => ⟨S16x1x1, .i32⟩
  | .hbm, ⟨55, _⟩ => ⟨S16x1x1, .i32⟩
  | .hbm, ⟨56, _⟩ => ⟨S16x1x384, .i32⟩
  | .hbm, ⟨57, _⟩ => ⟨S16x1x384, .i32⟩
  | .hbm, ⟨58, _⟩ => ⟨S16x1x384, .i32⟩
  | .hbm, ⟨59, _⟩ => ⟨S16x128x384, .i32⟩
  | .hbm, ⟨60, _⟩ => ⟨S16x128x384, .i32⟩
  | .hbm, ⟨61, _⟩ => ⟨S16x128x384, .i32⟩
  | .hbm, ⟨62, _⟩ => ⟨S16x128x384, .i32⟩
  | .hbm, ⟨63, _⟩ => ⟨S_, .i32⟩
  | .hbm, ⟨64, _⟩ => ⟨S16x128x384, .i32⟩
  | .hbm, ⟨65, _⟩ => ⟨S16x128x384, .i1⟩
  | .hbm, ⟨66, _⟩ => ⟨S_, .i32⟩
  | .hbm, ⟨67, _⟩ => ⟨S16x1x384, .i32⟩
  | .hbm, ⟨68, _⟩ => ⟨S16x1x384, .i1⟩
  | .hbm, ⟨69, _⟩ => ⟨S16x128x384, .i1⟩
  | .hbm, ⟨70, _⟩ => ⟨S16x128x384, .i1⟩
  | .hbm, ⟨71, _⟩ => ⟨S_, .i32⟩
  | .hbm, ⟨72, _⟩ => ⟨S16x1x384, .i32⟩
  | .hbm, ⟨73, _⟩ => ⟨S16x1x384, .i1⟩
  | .hbm, ⟨74, _⟩ => ⟨S16x128x384, .i1⟩
  | .hbm, ⟨75, _⟩ => ⟨S16x128x384, .i1⟩
  | .hbm, ⟨76, _⟩ => ⟨S1x16x1x128x384, .i1⟩
  | .hbm, ⟨77, _⟩ => ⟨S_, .f32⟩
  | .hbm, ⟨78, _⟩ => ⟨S_, .f32⟩
  | .hbm, ⟨79, _⟩ => ⟨S8x16x8x128x384, .i1⟩
  | .hbm, ⟨80, _⟩ => ⟨S8x16x8x128x384, .f32⟩
  | .hbm, ⟨81, _⟩ => ⟨S8x16x8x128x384, .f32⟩
  | .hbm, ⟨82, _⟩ => ⟨S8x8x256x16x128, .f32⟩
  | .hbm, ⟨83, _⟩ => ⟨S8x16x8x128x256, .f32⟩
  | .hbm, ⟨84, _⟩ => ⟨S1x1x8x1x1, .f32⟩
  | .hbm, ⟨85, _⟩ => ⟨S8x16x8x128x1, .f32⟩
  | .hbm, ⟨86, _⟩ => ⟨S8x16x8x128x641, .f32⟩
  | .hbm, ⟨87, _⟩ => ⟨S_, .f32⟩
  | .hbm, ⟨88, _⟩ => ⟨S8x16x8x128, .f32⟩
  | .hbm, ⟨89, _⟩ => ⟨S_, .f32⟩
  | .hbm, ⟨90, _⟩ => ⟨S8x16x8x128, .f32⟩
  | .hbm, ⟨91, _⟩ => ⟨S8x16x8x128, .f32⟩
  | .hbm, ⟨92, _⟩ => ⟨S8x16x8x128x1, .f32⟩
  | .hbm, ⟨93, _⟩ => ⟨S8x16x8x128x641, .f32⟩
  | .hbm, ⟨94, _⟩ => ⟨S8x16x8x128x641, .f32⟩
  | .hbm, ⟨95, _⟩ => ⟨S8x16x8x128x641, .f32⟩
  | .hbm, ⟨96, _⟩ => ⟨S_, .f32⟩
  | .hbm, ⟨97, _⟩ => ⟨S8x16x8x128, .f32⟩
  | .hbm, ⟨98, _⟩ => ⟨S8x16x8x128x1, .f32⟩
  | .hbm, ⟨99, _⟩ => ⟨S8x16x8x128x641, .f32⟩
  | .hbm, ⟨100, _⟩ => ⟨S8x16x8x128x641, .f32⟩
  | .hbm, ⟨101, _⟩ => ⟨S8x16x8x128x384, .f32⟩
  | .hbm, ⟨102, _⟩ => ⟨S8x16x8x128x256, .f32⟩
  | .hbm, ⟨103, _⟩ => ⟨S8x16x8x64x128, .f32⟩
  | .hbm, ⟨104, _⟩ => ⟨S8x16x128x8x64, .f32⟩
  | .hbm, ⟨105, _⟩ => ⟨S8x8x64x16x128, .f32⟩
  | .hbm, ⟨106, _⟩ => ⟨S8x16x128x8x64, .f32⟩
  | .hbm, ⟨107, _⟩ => ⟨S8x16x128x8x64, .f32⟩
  | .hbm, ⟨108, _⟩ => ⟨S8x2048x512, .f32⟩
  | .hbm, ⟨109, _⟩ => ⟨S8x2048x512, .bf16⟩
  | _, _ => ⟨S8x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_call1_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_2 : Ref sig .tc := ⟨.hbm, 50, rfl⟩
abbrev main_v41 : Ref sig .tc := ⟨.hbm, 51, rfl⟩
abbrev main_v42 : Ref sig .tc := ⟨.hbm, 52, rfl⟩
abbrev main_c_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_4 : Ref sig .tc := ⟨.hbm, 63, rfl⟩
abbrev main_v52 : Ref sig .tc := ⟨.hbm, 64, rfl⟩
abbrev main_v53 : Ref sig .tc := ⟨.hbm, 65, rfl⟩
abbrev main_c_5 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_6 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_9 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== Ffn.lean ====
abbrev S8x2048x1024 : Shape := ⟨3, ![8, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1x6144 : Shape := ⟨3, ![16, 1, 6144]⟩
abbrev S1x5632 : Shape := ⟨2, ![1, 5632]⟩
abbrev S1x512x1024 : Shape := ⟨3, ![1, 512, 1024]⟩
abbrev S1x16x1024 : Shape := ⟨3, ![1, 16, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x1x6144 : Shape := ⟨3, ![1, 1, 6144]⟩
abbrev S544x1024 : Shape := ⟨2, ![544, 1024]⟩
abbrev S512x1024 : Shape := ⟨2, ![512, 1024]⟩
abbrev S16x1024 : Shape := ⟨2, ![16, 1024]⟩
abbrev S544x1408 : Shape := ⟨2, ![544, 1408]⟩
abbrev S512x1408 : Shape := ⟨2, ![512, 1408]⟩
abbrev S1x1x1024 : Shape := ⟨3, ![1, 1, 1024]⟩
abbrev S1x1024 : Shape := ⟨2, ![1, 1024]⟩

abbrev nBuf : Space → Nat
  | .hbm => 11
  | .vmem => 28
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16x1x6144, .f32⟩
  | .hbm, ⟨7, _⟩ => ⟨S1024x5632, .bf16⟩
  | .hbm, ⟨8, _⟩ => ⟨S2816x1024, .bf16⟩
  | .hbm, ⟨9, _⟩ => ⟨S1x5632, .f32⟩
  | .hbm, ⟨10, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S1x1408, .f32⟩
  | .local _ .vmem, ⟨17, _⟩ => ⟨S1x1408, .f32⟩
  | .local _ .vmem, ⟨18, _⟩ => ⟨S1x1408, .f32⟩
  | .local _ .vmem, ⟨19, _⟩ => ⟨S1x1408, .f32⟩
  | .local _ .vmem, ⟨20, _⟩ => ⟨S1408x1024, .bf16⟩
  | .local _ .vmem, ⟨21, _⟩ => ⟨S1408x1024, .bf16⟩
  | .local _ .vmem, ⟨22, _⟩ => ⟨S1x1x6144, .f32⟩
  | .local _ .vmem, ⟨23, _⟩ => ⟨S1x1x6144, .f32⟩
  | .local _ .vmem, ⟨24, _⟩ => ⟨S1x512x1024, .f32⟩
  | .local _ .vmem, ⟨25, _⟩ => ⟨S1x512x1024, .f32⟩
  | .local _ .vmem, ⟨26, _⟩ => ⟨S544x1024, .bf16⟩
  | .local _ .vmem, ⟨27, _⟩ => ⟨S512x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32_33 : BitVec 32 := 1#32
  let v68 : BitVec 1 := Scalar.cmpi .eq arg2 c1_i32_33
  let v69 : BitVec 32 := Scalar.extui v68
  let c0_i32_34 : BitVec 32 := 0#32
  let v70 : BitVec 1 := Scalar.cmpi .ne v69 c0_i32_34
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c32_i32_0 : BitVec 32 := 32#32
  let v1 : BitVec 32 := Scalar.addi v0 c32_i32_0
  let c127_i32 : BitVec 32 := 127#32
  let v2 : BitVec 32 := Scalar.minsi v1 c127_i32
  let c0_i32 : BitVec 32 := 0#32
  let c0_i32_1 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1408x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== FfnRefIdeal.lean ====
abbrev S8x2048x1024 : Shape := ⟨3, ![8, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1x6144 : Shape := ⟨3, ![16, 1, 6144]⟩
abbrev S8x1x1024 : Shape := ⟨3, ![8, 1, 1024]⟩
abbrev S8x2048x5632 : Shape := ⟨3, ![8, 2048, 5632]⟩
abbrev S8x2047x5632 : Shape := ⟨3, ![8, 2047, 5632]⟩
abbrev S_ : Shape := ⟨0, ![]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16x1x6144, .f32⟩
  | .hbm, ⟨7, _⟩ => ⟨S8x1x1024, .f32⟩
  | .hbm, ⟨8, _⟩ => ⟨S8x2048x1024, .f32⟩
  | .hbm, ⟨9, _⟩ => ⟨S8x2048x5632, .f32⟩
  | .hbm, ⟨10, _⟩ => ⟨S8x2047x5632, .f32⟩
  | .hbm, ⟨11, _⟩ => ⟨S_, .i32⟩
  | .hbm, ⟨12, _⟩ => ⟨S_, .f32⟩
  | .hbm, ⟨13, _⟩ => ⟨S8x2048x5632, .f32⟩
  | .hbm, ⟨14, _⟩ => ⟨S8x2047x5632, .f32⟩
  | .hbm, ⟨15, _⟩ => ⟨S_, .i32⟩
  | .hbm, ⟨16, _⟩ => ⟨S_, .f32⟩
  | .hbm, ⟨17, _⟩ => ⟨S8x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S8x2048x5632, .f32⟩
  | .hbm, ⟨22, _⟩ => ⟨S8x2048x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S8x2048x5632, .f32⟩
  | .hbm, ⟨27, _⟩ => ⟨S8x2048x5632, .f32⟩
  | .hbm, ⟨28, _⟩ => ⟨S8x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S_, .f32⟩
  | .hbm, ⟨43, _⟩ => ⟨S8x2048x2816, .f32⟩
  | .hbm, ⟨44, _⟩ => ⟨S8x2048x2816, .f32⟩
  | .hbm, ⟨45, _⟩ => ⟨S_, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Outproj.lean ====
abbrev S8x2048x512 : Shape := ⟨3, ![8, 2048, 512]⟩
abbrev S8x2048x1024 : Shape := ⟨3, ![8, 2048, 1024]⟩
abbrev S1024x1024 : Shape := ⟨2, ![1024, 1024]⟩
abbrev S16x1x6144 : Shape := ⟨3, ![16, 1, 6144]⟩
abbrev S1024 : Shape := ⟨1, ![1024]⟩
abbrev S1x1024 : Shape := ⟨2, ![1, 1024]⟩
abbrev S1x512x512 : Shape := ⟨3, ![1, 512, 512]⟩
abbrev S1x512x1024 : Shape := ⟨3, ![1, 512, 1024]⟩
abbrev S1x1x6144 : Shape := ⟨3, ![1, 1, 6144]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1024x1024, .f32⟩
  | .hbm, ⟨4, _⟩ => ⟨S16x1x6144, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S8x2048x1024, .f32⟩
  | .hbm, ⟨9, _⟩ => ⟨S8x2048x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1x6144, .f32⟩
  | .local _ .vmem, ⟨8, _⟩ => ⟨S1x1x6144, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutRefIdeal.lean ====
abbrev S8x2048x512 : Shape := ⟨3, ![8, 2048, 512]⟩
abbrev S8x2048x1024 : Shape := ⟨3, ![8, 2048, 1024]⟩
abbrev S1024x1024 : Shape := ⟨2, ![1024, 1024]⟩
abbrev S16x1x6144 : Shape := ⟨3, ![16, 1, 6144]⟩
abbrev S1024 : Shape := ⟨1, ![1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .f32⟩
  | .hbm, ⟨3, _⟩ => ⟨S1024x1024, .f32⟩
  | .hbm, ⟨4, _⟩ => ⟨S16x1x6144, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x2048x512, .f32⟩
  | .hbm, ⟨10, _⟩ => ⟨S8x2048x512, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Modul.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S16x6144 : Shape := ⟨2, ![16, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1x6144, .f32⟩
  | .hbm, ⟨9, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S16x6144 : Shape := ⟨2, ![16, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x6144, .f32⟩
  | .hbm, ⟨18, _⟩ => ⟨S1x6144, .f32⟩
  | .hbm, ⟨19, _⟩ => ⟨S16x6144, .f32⟩
  | .hbm, ⟨20, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Inproj.lean ====
abbrev S8x2048x1024 : Shape := ⟨3, ![8, 2048, 1024]⟩
abbrev S8x256x1024 : Shape := ⟨3, ![8, 256, 1024]⟩
abbrev S16x1x6144 : Shape := ⟨3, ![16, 1, 6144]⟩
abbrev S1024 : Shape := ⟨1, ![1024]⟩
abbrev S1024x2320 : Shape := ⟨2, ![1024, 2320]⟩
abbrev S64 : Shape := ⟨1, ![64]⟩
abbrev S_ : Shape := ⟨0, ![]⟩
abbrev S1024x2432 : Shape := ⟨2, ![1024, 2432]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S256x128 : Shape := ⟨2, ![256, 128]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2304x128 : Shape := ⟨2, ![2304, 128]⟩
abbrev S2x64 : Shape := ⟨2, ![2, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x1024 : Shape := ⟨2, ![1, 1024]⟩
abbrev S8x2304x512 : Shape := ⟨3, ![8, 2304, 512]⟩
abbrev S8x2304x256 : Shape := ⟨3, ![8, 2304, 256]⟩
abbrev S8x2304x1024 : Shape := ⟨3, ![8, 2304, 1024]⟩
abbrev S8x2304x128 : Shape := ⟨3, ![8, 2304, 128]⟩
abbrev S1x256x1024 : Shape := ⟨3, ![1, 256, 1024]⟩
abbrev S1x1x6144 : Shape := ⟨3, ![1, 1, 6144]⟩
abbrev S1x256x512 : Shape := ⟨3, ![1, 256, 512]⟩
abbrev S1x256x256 : Shape := ⟨3, ![1, 256, 256]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x128 : Shape := ⟨2, ![1024, 128]⟩
abbrev S1024x512 : Shape := ⟨2, ![1024, 512]⟩
abbrev S256x512 : Shape := ⟨2, ![256, 512]⟩
abbrev S1024x1024 : Shape := ⟨2, ![1024, 1024]⟩

abbrev nBuf : Space → Nat
  | .hbm => 128
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S16x1x6144, .f32⟩
  | .hbm, ⟨3, _⟩ => ⟨S1024, .f32⟩
  | .hbm, ⟨4, _⟩ => ⟨S1024x2320, .f32⟩
  | .hbm, ⟨5, _⟩ => ⟨S64, .f32⟩
  | .hbm, ⟨6, _⟩ => ⟨S64, .f32⟩
  | .hbm, ⟨7, _⟩ => ⟨S_, .i32⟩
  | .hbm, ⟨8, _⟩ => ⟨S_, .f32⟩
  | .hbm, ⟨9, _⟩ => ⟨S1024x2432, .f32⟩
  | .hbm, ⟨10, _⟩ => ⟨S1024x2432, .bf16⟩
  | .hbm, ⟨11, _⟩ => ⟨S32, .i32⟩
  | .hbm, ⟨12, _⟩ => ⟨S32x64, .i32⟩
  | .hbm, ⟨13, _⟩ => ⟨S2048, .i32⟩
  | .hbm, ⟨14, _⟩ => ⟨S2048, .f32⟩
  | .hbm, ⟨15, _⟩ => ⟨S64, .i32⟩
  | .hbm, ⟨16, _⟩ => ⟨S1x64, .i32⟩
  | .hbm, ⟨17, _⟩ => ⟨S32x64, .i32⟩
  | .hbm, ⟨18, _⟩ => ⟨S2048, .i32⟩
  | .hbm, ⟨19, _⟩ => ⟨S2048, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S2048x1, .f32⟩
  | .hbm, ⟨29, _⟩ => ⟨S1x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x1, .f32⟩
  | .hbm, ⟨34, _⟩ => ⟨S1x16, .f32⟩
  | .hbm, ⟨35, _⟩ => ⟨S2048x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S_, .f32⟩
  | .hbm, ⟨43, _⟩ => ⟨S2048x16, .f32⟩
  | .hbm, ⟨44, _⟩ => ⟨S2048x64, .f32⟩
  | .hbm, ⟨45, _⟩ => ⟨S2048x16, .f32⟩
  | .hbm, ⟨46, _⟩ => ⟨S2048x16, .f32⟩
  | .hbm, ⟨47, _⟩ => ⟨S2048x64, .f32⟩
  | .hbm, ⟨48, _⟩ => ⟨S2048x64, .f32⟩
  | .hbm, ⟨49, _⟩ => ⟨S_, .f32⟩
  | .hbm, ⟨50, _⟩ => ⟨S256x128, .f32⟩
  | .hbm, ⟨51, _⟩ => ⟨S1x2048x1x64, .f32⟩
  | .hbm, ⟨52, _⟩ => ⟨S1x2048x2x64, .f32⟩
  | .hbm, ⟨53, _⟩ => ⟨S2048x128, .f32⟩
  | .hbm, ⟨54, _⟩ => ⟨S2304x128, .f32⟩
  | .hbm, ⟨55, _⟩ => ⟨S_, .f32⟩
  | .hbm, ⟨56, _⟩ => ⟨S256x128, .f32⟩
  | .hbm, ⟨57, _⟩ => ⟨S1x2048x1x64, .f32⟩
  | .hbm, ⟨58, _⟩ => ⟨S1x2048x2x64, .f32⟩
  | .hbm, ⟨59, _⟩ => ⟨S2048x128, .f32⟩
  | .hbm, ⟨60, _⟩ => ⟨S2304x128, .f32⟩
  | .hbm, ⟨61, _⟩ => ⟨S_, .f32⟩
  | .hbm, ⟨62, _⟩ => ⟨S256x128, .f32⟩
  | .hbm, ⟨63, _⟩ => ⟨S1x2048x1x64, .f32⟩
  | .hbm, ⟨64, _⟩ => ⟨S1x2048x2x64, .f32⟩
  | .hbm, ⟨65, _⟩ => ⟨S2048x128, .f32⟩
  | .hbm, ⟨66, _⟩ => ⟨S2304x128, .f32⟩
  | .hbm, ⟨67, _⟩ => ⟨S1x64, .f32⟩
  | .hbm, ⟨68, _⟩ => ⟨S2x64, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x64, .f32⟩
  | .hbm, ⟨75, _⟩ => ⟨S2x64, .f32⟩
  | .hbm, ⟨76, _⟩ => ⟨S128, .f32⟩
  | .hbm, ⟨77, _⟩ => ⟨S1x128, .f32⟩
  | .hbm, ⟨78, _⟩ => ⟨S128, .i32⟩
  | .hbm, ⟨79, _⟩ => ⟨S128x1, .i32⟩
  | .hbm, ⟨80, _⟩ => ⟨S_, .i32⟩
  | .hbm, ⟨81, _⟩ => ⟨S_, .i32⟩
  | .hbm, ⟨82, _⟩ => ⟨S128x1, .i32⟩
  | .hbm, ⟨83, _⟩ => ⟨S128x1, .i32⟩
  | .hbm, ⟨84, _⟩ => ⟨S128x1, .i32⟩
  | .hbm, ⟨85, _⟩ => ⟨S_, .i32⟩
  | .hbm, ⟨86, _⟩ => ⟨S128x1, .i32⟩
  | .hbm, ⟨87, _⟩ => ⟨S128x1, .i1⟩
  | .hbm, ⟨88, _⟩ => ⟨S128x1, .i32⟩
  | .hbm, ⟨89, _⟩ => ⟨S128x1, .i32⟩
  | .hbm, ⟨90, _⟩ => ⟨S_, .i32⟩
  | .hbm, ⟨91, _⟩ => ⟨S128x1, .i32⟩
  | .hbm, ⟨92, _⟩ => ⟨S128x1, .i1⟩
  | .hbm, ⟨93, _⟩ => ⟨S128x1, .i1⟩
  | .hbm, ⟨94, _⟩ => ⟨S_, .i32⟩
  | .hbm, ⟨95, _⟩ => ⟨S128x1, .i32⟩
  | .hbm, ⟨96, _⟩ => ⟨S128x1, .i32⟩
  | .hbm, ⟨97, _⟩ => ⟨S128x1, .i32⟩
  | .hbm, ⟨98, _⟩ => ⟨S1x128, .i32⟩
  | .hbm, ⟨99, _⟩ => ⟨S_, .i32⟩
  | .hbm, ⟨100, _⟩ => ⟨S_, .i32⟩
  | .hbm, ⟨101, _⟩ => ⟨S1x128, .i32⟩
  | .hbm, ⟨102, _⟩ => ⟨S1x128, .i32⟩
  | .hbm, ⟨103, _⟩ => ⟨S1x128, .i32⟩
  | .hbm, ⟨104, _⟩ => ⟨S_, .i32⟩
  | .hbm, ⟨105, _⟩ => ⟨S1x128, .i32⟩
  | .hbm, ⟨106, _⟩ => ⟨S1x128, .i1⟩
  | .hbm, ⟨107, _⟩ => ⟨S1x128, .i32⟩
  | .hbm, ⟨108, _⟩ => ⟨S1x128, .i32⟩
  | .hbm, ⟨109, _⟩ => ⟨S_, .i32⟩
  | .hbm, ⟨110, _⟩ => ⟨S1x128, .i32⟩
  | .hbm, ⟨111, _⟩ => ⟨S1x128, .i1⟩
  | .hbm, ⟨112, _⟩ => ⟨S1x128, .i1⟩
  | .hbm, ⟨113, _⟩ => ⟨S_, .i32⟩
  | .hbm, ⟨114, _⟩ => ⟨S1x128, .i32⟩
  | .hbm, ⟨115, _⟩ => ⟨S1x128, .i32⟩
  | .hbm, ⟨116, _⟩ => ⟨S1x128, .i32⟩
  | .hbm, ⟨117, _⟩ => ⟨S128x128, .i32⟩
  | .hbm, ⟨118, _⟩ => ⟨S128x128, .i32⟩
  | .hbm, ⟨119, _⟩ => ⟨S128x128, .i1⟩
  | .hbm, ⟨120, _⟩ => ⟨S128x128, .bf16⟩
  | .hbm, ⟨121, _⟩ => ⟨S1x1024, .f32⟩
  | .hbm, ⟨122, _⟩ => ⟨S8x2304x512, .bf16⟩
  | .hbm, ⟨123, _⟩ => ⟨S8x2304x256, .bf16⟩
  | .hbm, ⟨124, _⟩ => ⟨S8x2304x256, .bf16⟩
  | .hbm, ⟨125, _⟩ => ⟨S8x2304x512, .bf16⟩
  | .hbm, ⟨126, _⟩ => ⟨S8x2304x1024, .bf16⟩
  | .hbm, ⟨127, _⟩ => ⟨S8x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1024x2432, .bf16⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S128x128, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x128, .f32⟩
  | .local _ .vmem, ⟨28, _⟩ => ⟨S1x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_5 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_6 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_c : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_0 : Ref sig .tc := ⟨.hbm, 94, rfl⟩
abbrev main_call1_v12 : Ref sig .tc := ⟨.hbm, 95, rfl⟩
abbrev main_call1_v13 : Ref sig .tc := ⟨.hbm, 96, rfl⟩
abbrev main_v64 : Ref sig .tc := ⟨.hbm, 97, rfl⟩
abbrev main_v65 : Ref sig .tc := ⟨.hbm, 98, rfl⟩
abbrev main_c_7 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_c : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_0 : Ref sig .tc := ⟨.hbm, 113, rfl⟩
abbrev main_call2_v12 : Ref sig .tc := ⟨.hbm, 114, rfl⟩
abbrev main_call2_v13 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72_0 : Ref sig .tc := ⟨.hbm, 122, rfl⟩
abbrev main_v72_1 : Ref sig .tc := ⟨.hbm, 123, rfl⟩
abbrev main_v72_2 : Ref sig .tc := ⟨.hbm, 124, rfl⟩
abbrev main_v72_3 : Ref sig .tc := ⟨.hbm, 125, rfl⟩
abbrev main_v72_4 : Ref sig .tc := ⟨.hbm, 126, rfl⟩
abbrev main_v72_5 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InRefIdeal.lean ====
abbrev S8x2048x1024 : Shape := ⟨3, ![8, 2048, 1024]⟩
abbrev S8x256x1024 : Shape := ⟨3, ![8, 256, 1024]⟩
abbrev S16x1x6144 : Shape := ⟨3, ![16, 1, 6144]⟩
abbrev S1024 : Shape := ⟨1, ![1024]⟩
abbrev S1024x2320 : Shape := ⟨2, ![1024, 2320]⟩
abbrev S64 : Shape := ⟨1, ![64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S8x1x1024 : Shape := ⟨3, ![8, 1, 1024]⟩
abbrev S1x1x1024 : Shape := ⟨3, ![1, 1, 1024]⟩
abbrev S8x2048 : Shape := ⟨2, ![8, 2048]⟩
abbrev S8x2048x1 : Shape := ⟨3, ![8, 2048, 1]⟩
abbrev S8x256 : Shape := ⟨2, ![8, 256]⟩
abbrev S8x256x1 : Shape := ⟨3, ![8, 256, 1]⟩
abbrev S8x2048x2320 : Shape := ⟨3, ![8, 2048, 2320]⟩
abbrev S8x2048x512 : Shape := ⟨3, ![8, 2048, 512]⟩
abbrev S8x2048x128 : Shape := ⟨3, ![8, 2048, 128]⟩
abbrev S8x2048x16 : Shape := ⟨3, ![8, 2048, 16]⟩
abbrev S8x256x2320 : Shape := ⟨3, ![8, 256, 2320]⟩
abbrev S8x256x512 : Shape := ⟨3, ![8, 256, 512]⟩
abbrev S8x256x128 : Shape := ⟨3, ![8, 256, 128]⟩
abbrev S8x256x16 : Shape := ⟨3, ![8, 256, 16]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x8x32 : Shape := ⟨4, ![8, 2048, 8, 32]⟩
abbrev S8x2048x8x16 : Shape := ⟨4, ![8, 2048, 8, 16]⟩
abbrev S2048x1x16 : Shape := ⟨3, ![2048, 1, 16]⟩
abbrev S1x2048x1x16 : Shape := ⟨4, ![1, 2048, 1, 16]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x32 : Shape := ⟨4, ![8, 2048, 2, 32]⟩
abbrev S8x2048x2x16 : Shape := ⟨4, ![8, 2048, 2, 16]⟩
abbrev S8x256x8x64 : Shape := ⟨4, ![8, 256, 8, 64]⟩
abbrev S8x256x8 : Shape := ⟨3, ![8, 256, 8]⟩
abbrev S8x256x8x1 : Shape := ⟨4, ![8, 256, 8, 1]⟩
abbrev S8x256x2x64 : Shape := ⟨4, ![8, 256, 2, 64]⟩
abbrev S8x256x2 : Shape := ⟨3, ![8, 256, 2]⟩
abbrev S8x256x2x1 : Shape := ⟨4, ![8, 256, 2, 1]⟩
abbrev S8x2304x8x64 : Shape := ⟨4, ![8, 2304, 8, 64]⟩
abbrev S8x2304x512 : Shape := ⟨3, ![8, 2304, 512]⟩
abbrev S8x2304x2x64 : Shape := ⟨4, ![8, 2304, 2, 64]⟩
abbrev S8x2304x128 : Shape := ⟨3, ![8, 2304, 128]⟩
abbrev S8x2304x1024 : Shape := ⟨3, ![8, 2304, 1024]⟩
abbrev S8x2304x16 : Shape := ⟨3, ![8, 2304, 16]⟩

abbrev nBuf : Space → Nat
  | .hbm => 263
  | .vmem => 0
  | .smem => 0
  | _ => 0

abbrev hbmTy0_0 (i : Nat) : BufTy := match i % 128 with
  | 0 => ⟨S8x2048x1024, .f32⟩
  | 1 => ⟨S8x256x1024, .f32⟩
  | 2 => ⟨S16x1x6144, .f32⟩
  | 3 => ⟨S1024, .f32⟩
  | 4 => ⟨S1024x2320, .f32⟩
  | 5 => ⟨S64, .f32⟩
  | 6 => ⟨S64, .f32⟩
  | 7 => ⟨S32, .i32⟩
  | 8 => ⟨S32x64, .i32⟩
  | 9 => ⟨S2048, .i32⟩
  | 10 => ⟨S2048, .f32⟩
  | 11 => ⟨S64, .i32⟩
  | 12 => ⟨S1x64, .i32⟩
  | 13 => ⟨S32x64, .i32⟩
  | 14 => ⟨S2048, .i32⟩
  | 15 => ⟨S2048, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2048x1, .f32⟩
  | 25 => ⟨S1x16, .f32⟩
  | 26 => ⟨S2048x16, .f32⟩
  | 27 => ⟨S2048x16, .f32⟩
  | 28 => ⟨S2048x16, .f32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x16, .f32⟩
  | 35 => ⟨S2048x16, .f32⟩
  | 36 => ⟨S2048x16, .f32⟩
  | 37 => ⟨S2048x16, .f32⟩
  | 38 => ⟨S8x1x1024, .f32⟩
  | 39 => ⟨S8x1x1024, .f32⟩
  | 40 => ⟨S1x1x1024, .f32⟩
  | 41 => ⟨S1x1x1024, .f32⟩
  | 42 => ⟨S8x2048x1024, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .f32⟩
  | 50 => ⟨S8x2048x1, .f32⟩
  | 51 => ⟨S8x2048x1, .f32⟩
  | 52 => ⟨S8x2048x1, .f32⟩
  | 53 => ⟨S8x2048x1024, .f32⟩
  | 54 => ⟨S8x2048x1024, .f32⟩
  | 55 => ⟨S1x1x1024, .f32⟩
  | 56 => ⟨S8x2048x1024, .f32⟩
  | 57 => ⟨S8x2048x1024, .f32⟩
  | 58 => ⟨S_, .f32⟩
  | 59 => ⟨S8x1x1024, .f32⟩
  | 60 => ⟨S8x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S8x256x1024, .f32⟩
  | 66 => ⟨S_, .f32⟩
  | 67 => ⟨S8x256, .f32⟩
  | 68 => ⟨S8x256x1, .f32⟩
  | 69 => ⟨S_, .f32⟩
  | 70 => ⟨S8x256x1, .f32⟩
  | 71 => ⟨S8x256x1, .f32⟩
  | 72 => ⟨S_, .f32⟩
  | 73 => ⟨S8x256x1, .f32⟩
  | 74 => ⟨S8x256x1, .f32⟩
  | 75 => ⟨S8x256x1, .f32⟩
  | 76 => ⟨S8x256x1024, .f32⟩
  | 77 => ⟨S8x256x1024, .f32⟩
  | 78 => ⟨S1x1x1024, .f32⟩
  | 79 => ⟨S8x256x1024, .f32⟩
  | 80 => ⟨S8x256x1024, .f32⟩
  | 81 => ⟨S_, .f32⟩
  | 82 => ⟨S1x1x1024, .f32⟩
  | 83 => ⟨S1x1x1024, .f32⟩
  | 84 => ⟨S8x256x1024, .f32⟩
  | 85 => ⟨S8x256x1024, .f32⟩
  | 86 => ⟨S8x256x1024, .f32⟩
  | 87 => ⟨S8x256x1024, .f32⟩
  | 88 => ⟨S8x2048x2320, .f32⟩
  | 89 => ⟨S8x2048x512, .f32⟩
  | 90 => ⟨S8x2048x128, .f32⟩
  | 91 => ⟨S8x2048x128, .f32⟩
  | 92 => ⟨S8x2048x512, .f32⟩
  | 93 => ⟨S8x2048x1024, .f32⟩
  | 94 => ⟨S8x2048x16, .f32⟩
  | 95 => ⟨S8x256x2320, .f32⟩
  | 96 => ⟨S8x256x512, .f32⟩
  | 97 => ⟨S8x256x128, .f32⟩
  | 98 => ⟨S8x256x128, .f32⟩
  | 99 => ⟨S8x256x512, .f32⟩
  | 100 => ⟨S8x256x1024, .f32⟩
  | 101 => ⟨S8x256x16, .f32⟩
  | 102 => ⟨S8x2048x8x64, .f32⟩
  | 103 => ⟨S8x2048x8x64, .f32⟩
  | 104 => ⟨S_, .f32⟩
  | 105 => ⟨S8x2048x8, .f32⟩
  | 106 => ⟨S8x2048x8x1, .f32⟩
  | 107 => ⟨S_, .f32⟩
  | 108 => ⟨S8x2048x8x1, .f32⟩
  | 109 => ⟨S8x2048x8x1, .f32⟩
  | 110 => ⟨S_, .f32⟩
  | 111 => ⟨S8x2048x8x1, .f32⟩
  | 112 => ⟨S8x2048x8x1, .f32⟩
  | 113 => ⟨S8x2048x8x1, .f32⟩
  | 114 => ⟨S8x2048x8x64, .f32⟩
  | 115 => ⟨S8x2048x8x64, .f32⟩
  | 116 => ⟨S1x1x1x64, .f32⟩
  | 117 => ⟨S8x2048x8x64, .f32⟩
  | 118 => ⟨S8x2048x8x64, .f32⟩
  | 119 => ⟨S8x2048x8x32, .f32⟩
  | 120 => ⟨S8x2048x8x32, .f32⟩
  | 121 => ⟨S8x2048x8x16, .f32⟩
  | 122 => ⟨S8x2048x8x16, .f32⟩
  | 123 => ⟨S2048x1x16, .f32⟩
  | 124 => ⟨S2048x1x16, .f32⟩
  | 125 => ⟨S1x2048x1x16, .f32⟩
  | 126 => ⟨S8x2048x8x16, .f32⟩
  | 127 => ⟨S8x2048x8x16, .f32⟩
  | _ => ⟨S8x2048x1024, .f32⟩

abbrev hbmTy0_1 (i : Nat) : BufTy := match i % 128 with
  | 0 => ⟨S1x2048x1x16, .f32⟩
  | 1 => ⟨S8x2048x8x16, .f32⟩
  | 2 => ⟨S8x2048x8x16, .f32⟩
  | 3 => ⟨S8x2048x8x16, .f32⟩
  | 4 => ⟨S1x2048x1x16, .f32⟩
  | 5 => ⟨S8x2048x8x16, .f32⟩
  | 6 => ⟨S8x2048x8x16, .f32⟩
  | 7 => ⟨S1x2048x1x16, .f32⟩
  | 8 => ⟨S8x2048x8x16, .f32⟩
  | 9 => ⟨S8x2048x8x16, .f32⟩
  | 10 => ⟨S8x2048x8x16, .f32⟩
  | 11 => ⟨S8x2048x8x32, .f32⟩
  | 12 => ⟨S8x2048x8x16, .f32⟩
  | 13 => ⟨S8x2048x8x16, .f32⟩
  | 14 => ⟨S2048x1x16, .f32⟩
  | 15 => ⟨S2048x1x16, .f32⟩
  | 16 => ⟨S1x2048x1x16, .f32⟩
  | 17 => ⟨S8x2048x8x16, .f32⟩
  | 18 => ⟨S8x2048x8x16, .f32⟩
  | 19 => ⟨S1x2048x1x16, .f32⟩
  | 20 => ⟨S8x2048x8x16, .f32⟩
  | 21 => ⟨S8x2048x8x16, .f32⟩
  | 22 => ⟨S8x2048x8x16, .f32⟩
  | 23 => ⟨S1x2048x1x16, .f32⟩
  | 24 => ⟨S8x2048x8x16, .f32⟩
  | 25 => ⟨S8x2048x8x16, .f32⟩
  | 26 => ⟨S1x2048x1x16, .f32⟩
  | 27 => ⟨S8x2048x8x16, .f32⟩
  | 28 => ⟨S8x2048x8x16, .f32⟩
  | 29 => ⟨S8x2048x8x16, .f32⟩
  | 30 => ⟨S8x2048x8x32, .f32⟩
  | 31 => ⟨S8x2048x8x64, .f32⟩
  | 32 => ⟨S8x2048x2x64, .f32⟩
  | 33 => ⟨S8x2048x2x64, .f32⟩
  | 34 => ⟨S_, .f32⟩
  | 35 => ⟨S8x2048x2, .f32⟩
  | 36 => ⟨S8x2048x2x1, .f32⟩
  | 37 => ⟨S_, .f32⟩
  | 38 => ⟨S8x2048x2x1, .f32⟩
  | 39 => ⟨S8x2048x2x1, .f32⟩
  | 40 => ⟨S_, .f32⟩
  | 41 => ⟨S8x2048x2x1, .f32⟩
  | 42 => ⟨S8x2048x2x1, .f32⟩
  | 43 => ⟨S8x2048x2x1, .f32⟩
  | 44 => ⟨S8x2048x2x64, .f32⟩
  | 45 => ⟨S8x2048x2x64, .f32⟩
  | 46 => ⟨S1x1x1x64, .f32⟩
  | 47 => ⟨S8x2048x2x64, .f32⟩
  | 48 => ⟨S8x2048x2x64, .f32⟩
  | 49 => ⟨S8x2048x2x32, .f32⟩
  | 50 => ⟨S8x2048x2x32, .f32⟩
  | 51 => ⟨S8x2048x2x16, .f32⟩
  | 52 => ⟨S8x2048x2x16, .f32⟩
  | 53 => ⟨S2048x1x16, .f32⟩
  | 54 => ⟨S2048x1x16, .f32⟩
  | 55 => ⟨S1x2048x1x16, .f32⟩
  | 56 => ⟨S8x2048x2x16, .f32⟩
  | 57 => ⟨S8x2048x2x16, .f32⟩
  | 58 => ⟨S1x2048x1x16, .f32⟩
  | 59 => ⟨S8x2048x2x16, .f32⟩
  | 60 => ⟨S8x2048x2x16, .f32⟩
  | 61 => ⟨S8x2048x2x16, .f32⟩
  | 62 => ⟨S1x2048x1x16, .f32⟩
  | 63 => ⟨S8x2048x2x16, .f32⟩
  | 64 => ⟨S8x2048x2x16, .f32⟩
  | 65 => ⟨S1x2048x1x16, .f32⟩
  | 66 => ⟨S8x2048x2x16, .f32⟩
  | 67 => ⟨S8x2048x2x16, .f32⟩
  | 68 => ⟨S8x2048x2x16, .f32⟩
  | 69 => ⟨S8x2048x2x32, .f32⟩
  | 70 => ⟨S8x2048x2x16, .f32⟩
  | 71 => ⟨S8x2048x2x16, .f32⟩
  | 72 => ⟨S2048x1x16, .f32⟩
  | 73 => ⟨S2048x1x16, .f32⟩
  | 74 => ⟨S1x2048x1x16, .f32⟩
  | 75 => ⟨S8x2048x2x16, .f32⟩
  | 76 => ⟨S8x2048x2x16, .f32⟩
  | 77 => ⟨S1x2048x1x16, .f32⟩
  | 78 => ⟨S8x2048x2x16, .f32⟩
  | 79 => ⟨S8x2048x2x16, .f32⟩
  | 80 => ⟨S8x2048x2x16, .f32⟩
  | 81 => ⟨S1x2048x1x16, .f32⟩
  | 82 => ⟨S8x2048x2x16, .f32⟩
  | 83 => ⟨S8x2048x2x16, .f32⟩
  | 84 => ⟨S1x2048x1x16, .f32⟩
  | 85 => ⟨S8x2048x2x16, .f32⟩
  | 86 => ⟨S8x2048x2x16, .f32⟩
  | 87 => ⟨S8x2048x2x16, .f32⟩
  | 88 => ⟨S8x2048x2x32, .f32⟩
  | 89 => ⟨S8x2048x2x64, .f32⟩
  | 90 => ⟨S8x256x8x64, .f32⟩
  | 91 => ⟨S8x256x8x64, .f32⟩
  | 92 => ⟨S_, .f32⟩
  | 93 => ⟨S8x256x8, .f32⟩
  | 94 => ⟨S8x256x8x1, .f32⟩
  | 95 => ⟨S_, .f32⟩
  | 96 => ⟨S8x256x8x1, .f32⟩
  | 97 => ⟨S8x256x8x1, .f32⟩
  | 98 => ⟨S_, .f32⟩
  | 99 => ⟨S8x256x8x1, .f32⟩
  | 100 => ⟨S8x256x8x1, .f32⟩
  | 101 => ⟨S8x256x8x1, .f32⟩
  | 102 => ⟨S8x256x8x64, .f32⟩
  | 103 => ⟨S8x256x8x64, .f32⟩
  | 104 => ⟨S1x1x1x64, .f32⟩
  | 105 => ⟨S8x256x8x64, .f32⟩
  | 106 => ⟨S8x256x8x64, .f32⟩
  | 107 => ⟨S8x256x2x64, .f32⟩
  | 108 => ⟨S8x256x2x64, .f32⟩
  | 109 => ⟨S_, .f32⟩
  | 110 => ⟨S8x256x2, .f32⟩
  | 111 => ⟨S8x256x2x1, .f32⟩
  | 112 => ⟨S_, .f32⟩
  | 113 => ⟨S8x256x2x1, .f32⟩
  | 114 => ⟨S8x256x2x1, .f32⟩
  | 115 => ⟨S_, .f32⟩
  | 116 => ⟨S8x256x2x1, .f32⟩
  | 117 => ⟨S8x256x2x1, .f32⟩
  | 118 => ⟨S8x256x2x1, .f32⟩
  | 119 => ⟨S8x256x2x64, .f32⟩
  | 120 => ⟨S8x256x2x64, .f32⟩
  | 121 => ⟨S1x1x1x64, .f32⟩
  | 122 => ⟨S8x256x2x64, .f32⟩
  | 123 => ⟨S8x256x2x64, .f32⟩
  | 124 => ⟨S8x2304x8x64, .f32⟩
  | 125 => ⟨S8x2304x512, .f32⟩
  | 126 => ⟨S_, .f32⟩
  | 127 => ⟨S8x2304x512, .f32⟩
  | _ => ⟨S8x2048x1024, .f32⟩

abbrev hbmTy0_2 (i : Nat) : BufTy := match i % 128 with
  | 0 => ⟨S8x2304x512, .f32⟩
  | 1 => ⟨S8x2304x2x64, .f32⟩
  | 2 => ⟨S8x2304x128, .f32⟩
  | 3 => ⟨S8x2304x128, .f32⟩
  | 4 => ⟨S8x2304x512, .f32⟩
  | 5 => ⟨S8x2304x1024, .f32⟩
  | 6 => ⟨S8x2304x16, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_9 : Ref sig .tc := ⟨.hbm, 104, rfl⟩
abbrev main_v87 : Ref sig .tc := ⟨.hbm, 105, rfl⟩
abbrev main_v88 : Ref sig .tc := ⟨.hbm, 106, rfl⟩
abbrev main_cst_10 : Ref sig .tc := ⟨.hbm, 107, rfl⟩
abbrev main_v89 : Ref sig .tc := ⟨.hbm, 108, rfl⟩
abbrev main_v90 : Ref sig .tc := ⟨.hbm, 109, rfl⟩
abbrev main_cst_11 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_12 : Ref sig .tc := ⟨.hbm, 162, rfl⟩
abbrev main_v142 : Ref sig .tc := ⟨.hbm, 163, rfl⟩
abbrev main_v143 : Ref sig .tc := ⟨.hbm, 164, rfl⟩
abbrev main_cst_13 : Ref sig .tc := ⟨.hbm, 165, rfl⟩
abbrev main_v144 : Ref sig .tc := ⟨.hbm, 166, rfl⟩
abbrev main_v145 : Ref sig .tc := ⟨.hbm, 167, rfl⟩
abbrev main_cst_14 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_cst_15 : Ref sig .tc := ⟨.hbm, 220, rfl⟩
abbrev main_v197 : Ref sig .tc := ⟨.hbm, 221, rfl⟩
abbrev main_v198 : Ref sig .tc := ⟨.hbm, 222, rfl⟩
abbrev main_cst_16 : Ref sig .tc := ⟨.hbm, 223, rfl⟩
abbrev main_v199 : Ref sig .tc := ⟨.hbm, 224, rfl⟩
abbrev main_v200 : Ref sig .tc := ⟨.hbm, 225, rfl⟩
abbrev main_cst_17 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_cst_18 : Ref sig .tc := ⟨.hbm, 237, rfl⟩
abbrev main_v211 : Ref sig .tc := ⟨.hbm, 238, rfl⟩
abbrev main_v212 : Ref sig .tc := ⟨.hbm, 239, rfl⟩
abbrev main_cst_19 : Ref sig .tc := ⟨.hbm, 240, rfl⟩
abbrev main_v213 : Ref sig .tc := ⟨.hbm, 241, rfl⟩
abbrev main_v214 : Ref sig .tc := ⟨.hbm, 242, rfl⟩
abbrev main_cst_20 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_cst_21 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩

abbrev nD : Nat := 1
abbrev τ : Topo := Topo.v7x

variable {F : FTy → Type} [FloatOps F]
-- ==== Proof.ModVal.lean ====
/-
  The modulation call: its result array is the reference's.
-/
module

public import proofs.«01_k».proof.Proof.Gen.ModulIdeal.Value
public import proofs.«01_k».proof.Proof.Gen.ModRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModulIdeal.Value

open Cert.ModulIdeal Cert.ModulIdeal.Gen
open Cert.ModRefIdeal.Read (val_main_v7 val_main_v6 val_main_v5 val_main_v4 val_main_v3 val_main_v2 val_main_v1 val_main_v0
  val_main_cst val_main_call0_v0 val_main_call0_v1 val_main_call0_v2 val_main_call0_v3 val_main_call0_v4 val_main_call0_v5
  val_main_call0_cst val_main_call0_cst_0)

variable (m : (ℓ : Loc nD τ sig) → Buf (Elt Ideal) ℓ)

/-- Point `t` reads and writes the `t`-th block of 1024 columns. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The host code in front of the call stacks the condition rows as the reference does. -/
theorem V_rows (c : Dev nD) : V m c main_v2
    = val_main_v2 (F := Ideal) (m ((c : Thread nD τ).loc main_arg0)) (m ((c : Thread nD τ).loc main_arg1)) := by
  unfold V
  after_results
  rfl

theorem V_bias (c : Dev nD) : V m c main_v3
    = shapeCast S1x6144 (m ((c : Thread nD τ).loc main_arg3) : FVec Ideal S6144 .f32) shapeCasts_S6144_S1x6144 := by
  unfold V
  after_results
  rfl

theorem row_bias (x : FVec Ideal S6144 .f32) (l : Fin 6144) :
    (shapeCast S1x6144 x shapeCasts_S6144_S1x6144 : FVec Ideal S1x6144 .f32) (ix2 0 l) = x (ix1 l) := by
  pointwise

theorem blk0 (c : Dev nD) (t : Fin cfg0.N) (a : Fin 16) (k : Fin 1024) :
    (iblk m c 0 t : FVec Ideal S16x1024 .f32) (ix2 a k)
      = val_main_v2 (F := Ideal) (m ((c : Thread nD τ).loc main_arg0)) (m ((c : Thread nD τ).loc main_arg1)) (ix2 a k) := by
  rw [← V_rows m c]
  blk_ext [iblk, idx t]

theorem blk1 (c : Dev nD) (t : Fin cfg0.N) (k l : Fin 1024) (h : t.val * 1024 + l.val < 6144) :
    (iblk m c 1 t : FVec Ideal S1024x1024 .f32) (ix2 k l)
      = (m ((c : Thread nD τ).loc main_arg2) : FVec Ideal S1024x6144 .f32) (ix2 k ⟨t.val * 1024 + l.val, h⟩) := by
  rw [← V_main_arg2 m c]
  blk_ext [iblk, idx t]

theorem blk2 (c : Dev nD) (t : Fin cfg0.N) (l : Fin 1024) (h : t.val * 1024 + l.val < 6144) :
    (iblk m c 2 t : FVec Ideal S1x1024 .f32) (ix2 0 l)
      = (m ((c : Thread nD τ).loc main_arg3) : FVec Ideal S6144 .f32) (ix1 ⟨t.val * 1024 + l.val, h⟩) := by
  refine Eq.trans ?_ (row_bias _ _)
  rw [← V_bias m c]
  blk_ext [iblk, idx t]

/-- Where an entry of block `t` lies in the result array. -/
theorem emb (t : Fin cfg0.N) (y : S16x1024.Idx) (h : t.val * 1024 + (y 1).val < 6144) :
    (((cfg0.win 3).blk t).view.emb y : S16x6144.Idx) = ix2 (y 0) ⟨t.val * 1024 + (y 1).val, h⟩ := by
  blk_ext [idx t]

/-- What the body stores, entry by entry, from the blocks it loads. -/
theorem pay (b0 : FVec Ideal S16x1024 .f32) (b1 : FVec Ideal S1024x1024 .f32) (b2 : FVec Ideal S1x1024 .f32)
    (a : Fin 16) (l : Fin 1024) : k0_pay1 b0 b1 b2 (ix2 a l)
      = (∑ k : Fin 1024, b0 (ix2 a k) * Ideal.div 1 (1 + Ideal.exp (-b0 (ix2 a k))) * b1 (ix2 k l)) + b2 (ix2 0 l) := by
  pointwise [k0_pay1, zero_sub]

/-- The reference, entry by entry. -/
theorem ref (x0 : FVec Ideal S8x1024 .f32) (x1 : FVec Ideal S1024 .f32) (x2 : FVec Ideal S1024x6144 .f32)
    (x3 : FVec Ideal S6144 .f32) (a : Fin 16) (l : Fin 6144) : val_main_v7 (F := Ideal) x0 x1 x2 x3 (ix2 a l)
      = (∑ k : Fin 1024, val_main_v2 (F := Ideal) x0 x1 (ix2 a k)
          * Ideal.div 1 (1 + Ideal.exp (-val_main_v2 (F := Ideal) x0 x1 (ix2 a k))) * x2 (ix2 k l)) + x3 (ix1 l) := by
  pointwise [val_main_v7, val_main_v6, val_main_v5, val_main_v4, val_main_v3, val_main_call0_v0, val_main_call0_v1,
    val_main_call0_v2, val_main_call0_v3, val_main_call0_v4, val_main_call0_v5, val_main_call0_cst, val_main_call0_cst_0]

/-- An entry of the block that point `t` stores is the reference's entry at the place the block has in the array. -/
theorem point (c : Dev nD) (t : Fin cfg0.N) (a : Fin 16) (l : Fin 1024) (h : t.val * 1024 + l.val < 6144) :
    k0_pay1 (F := Ideal) (iblk m c 0 t) (iblk m c 1 t) (iblk m c 2 t) (ix2 a l)
      = val_main_v7 (F := Ideal) (m ((c : Thread nD τ).loc main_arg0)) (m ((c : Thread nD τ).loc main_arg1))
        (m ((c : Thread nD τ).loc main_arg2)) (m ((c : Thread nD τ).loc main_arg3)) (ix2 a ⟨t.val * 1024 + l.val, h⟩) := by
  refine (pay _ _ _ _ _).trans (Eq.trans ?_ (ref _ _ _ _ _ _).symm)
  refine congrArg₂ (· + ·) (Finset.sum_congr rfl fun k _ => ?_) (blk2 m c t l h)
  rw [blk0 m c t, blk1 m c t k l h]

/-- After the run the result array is the reference's modulation of the same arguments. -/
theorem final (c : Dev nD) : (dats m 0 c).arrAt 3 (cfgs 0).N
    = val_main_v7 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3]
  frame_out
  have hy : t.val * 1024 + (y 1).val < 6144 := by
    have : (y 1).val < 1024 := (y 1).isLt
    have : t.val < 6 := lt_of_lt_of_eq t.isLt N_0
    omega
  refine Eq.trans ?_ (congrArg _ (emb t y hy).symm)
  exact (congrArg _ (eq_ix2 y)).trans (point m c t (y 0) (y 1) hy)

end Cert.ModulIdeal.Value
-- ==== Proof.OutVal.lean ====
/-
  The output projection call: its two result arrays are the reference's.
-/
module

public import proofs.«01_k».proof.Proof.Gen.OutprojIdeal.Value
public import proofs.«01_k».proof.Proof.Gen.OutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutprojIdeal.Value

open Cert.OutprojIdeal Cert.OutprojIdeal.Gen
open Cert.OutRefIdeal.Read (val_main_v0 val_main_v1 val_main_v2 val_main_v3 val_main_v4 val_main_v5 val_main_v6 val_main_v7
  val_main_v8 val_main_v9 val_main_v10 val_main_v11 val_main_v12 val_main_v13 val_main_v14 val_main_v15 val_main_v16
  val_main_v17 val_main_v18 val_main_v19 val_main_v20 val_main_v21 val_main_v22 val_main_v23 val_main_v24 val_main_v25
  val_main_v26 val_main_v27 val_main_v28 val_main_v29 val_main_cst val_main_cst_0 val_main_cst_1 val_main_cst_2)

variable (m : (ℓ : Loc nD τ sig) → Buf (Elt Ideal) ℓ)

/-- Point `t` works on the 512 tokens of block `t % 4` of batch row `t / 4`. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![0, 0] ∧ win0_4.index t = ![t.val / 4, 0, 0]
    ∧ win0_5.index t = ![0, 0] ∧ win0_6.index t = ![t.val / 4, t.val % 4, 0] ∧ win0_7.index t = ![t.val / 4, t.val % 4, 0] :=
  (by decide +kernel : ∀ t : Fin grid0.N, _)

/-- The projected and gated row, from its attention row, its scan row, the residual and the weights. -/
theorem pay2 (v0 : FVec Ideal S1x512x512 .bf16) (v2 : FVec Ideal S512x1024 .bf16) (v5 : FVec Ideal S1x512x512 .bf16)
    (v7 : FVec Ideal S512x1024 .bf16) (v11 : FVec Ideal S1x1x1024 .f32) (v13 : FVec Ideal S1x512x1024 .f32)
    (r : Fin 512) (d : Fin 1024) : k0_pay2 (F := Ideal) v0 v2 v5 v7 v11 v13 (ix2 r d)
      = v13 (ix3 0 r d) + v11 (ix3 0 0 d) * ((∑ k : Fin 512, v0 (ix3 0 r k) * v2 (ix2 k d))
          + ∑ k : Fin 512, v5 (ix3 0 r k) * v7 (ix2 k d)) := by
  pointwise [k0_pay2]

theorem pay3 (v0 : FVec Ideal S1x512x512 .bf16) (v2 : FVec Ideal S512x1024 .bf16) (v5 : FVec Ideal S1x512x512 .bf16)
    (v7 : FVec Ideal S512x1024 .bf16) (v11 : FVec Ideal S1x1x1024 .f32) (v13 : FVec Ideal S1x512x1024 .f32)
    (r : Fin 512) (d : Fin 1024) : k0_pay3 (F := Ideal) v0 v2 v5 v7 v11 v13 (ix3 0 r d)
      = k0_pay2 (F := Ideal) v0 v2 v5 v7 v11 v13 (ix2 r d) := by
  pointwise [k0_pay3]

theorem pay1 (v0 : FVec Ideal S1x512x512 .bf16) (v2 : FVec Ideal S512x1024 .bf16) (v5 : FVec Ideal S1x512x512 .bf16)
    (v7 : FVec Ideal S512x1024 .bf16) (v11 : FVec Ideal S1x1x1024 .f32) (v13 : FVec Ideal S1x512x1024 .f32)
    (v31 : FVec Ideal S1x1024 .f32) (v35 v37 : FVec Ideal S1x1x1024 .f32)
    (r : Fin 512) (d : Fin 1024) : k0_pay1 (F := Ideal) (k0_pay4 v0 v2 v5 v7 v11 v13) v31 v35 v37 (ix3 0 r d)
      = k0_pay2 (F := Ideal) v0 v2 v5 v7 v11 v13 (ix2 r d) * Ideal.rsqrt (Ideal.div (∑ k : Fin 1024, k0_pay2 (F := Ideal) v0 v2 v5 v7 v11 v13 (ix2 r k)
          * k0_pay2 (F := Ideal) v0 v2 v5 v7 v11 v13 (ix2 r k)) (Ideal.ofBits .f32 0x44800000#32) + Ideal.ofBits .f32 0x358637BD#32)
          * v31 (ix2 0 d) * (1 + v37 (ix3 0 0 d)) + v35 (ix3 0 0 d) := by
  pointwise [k0_pay1, k0_pay4]

/-- The reference's first result, entry by entry. -/
theorem ref9 (x0 x1 : FVec Ideal S8x2048x512 .bf16) (x2 : FVec Ideal S8x2048x1024 .f32) (x3 : FVec Ideal S1024x1024 .f32)
    (x4 : FVec Ideal S16x1x6144 .f32) (b : Fin 8) (l : Fin 2048) (d : Fin 1024) :
    val_main_v9 (F := Ideal) x0 x1 x2 x3 x4 (ix3 b l d)
      = x2 (ix3 b l d) + x4 (ix3 ⟨b.val, by omega⟩ 0 ⟨2048 + d.val, by omega⟩)
          * ((∑ k : Fin 512, x0 (ix3 b l k) * x3 (ix2 ⟨k.val, by omega⟩ d))
            + ∑ k : Fin 512, x1 (ix3 b l k) * x3 (ix2 ⟨512 + k.val, by omega⟩ d)) := by
  pointwise [val_main_v9, val_main_v8, val_main_v7, val_main_v6, val_main_v5, val_main_v4, val_main_v3, val_main_v0]

/-- The reference's second result, entry by entry. -/
theorem ref29 (x0 x1 : FVec Ideal S8x2048x512 .bf16) (x2 : FVec Ideal S8x2048x1024 .f32) (x3 : FVec Ideal S1024x1024 .f32)
    (x4 : FVec Ideal S16x1x6144 .f32) (x5 : FVec Ideal S1024 .f32) (b : Fin 8) (l : Fin 2048) (d : Fin 1024) :
    val_main_v29 (F := Ideal) x0 x1 x2 x3 x4 x5 (ix3 b l d)
      = val_main_v9 (F := Ideal) x0 x1 x2 x3 x4 (ix3 b l d) * Ideal.rsqrt (Ideal.div (∑ k : Fin 1024,
          val_main_v9 (F := Ideal) x0 x1 x2 x3 x4 (ix3 b l k) * val_main_v9 (F := Ideal) x0 x1 x2 x3 x4 (ix3 b l k))
            (Ideal.ofBits .f32 0x44800000#32) + Ideal.ofBits .f32 0x358637BD#32)
          * x5 (ix1 d) * (1 + x4 (ix3 ⟨b.val, by omega⟩ 0 ⟨4096 + d.val, by omega⟩))
          + x4 (ix3 ⟨b.val, by omega⟩ 0 ⟨3072 + d.val, by omega⟩) := by
  pointwise [val_main_v10, val_main_v11, val_main_v12, val_main_v13, val_main_v14, val_main_v15, val_main_v16, val_main_v17,
    val_main_v18, val_main_v19, val_main_v20, val_main_v21, val_main_v22, val_main_v23, val_main_v24, val_main_v25, val_main_v26,
    val_main_v27, val_main_v28, val_main_v29, val_main_cst, val_main_cst_0, val_main_cst_1, val_main_cst_2, val_main_v1, val_main_v2]

theorem V_w (c : Dev nD) : V m c main_v0 = (m ((c : Thread nD τ).loc main_arg3) : FVec Ideal S1024x1024 .f32) := by
  unfold V
  after_results
  rfl

theorem V_g (c : Dev nD) : V m c main_v1
    = shapeCast S1x1024 (m ((c : Thread nD τ).loc main_arg5) : FVec Ideal S1024 .f32) shapeCasts_S1024_S1x1024 := by
  unfold V
  after_results
  rfl

theorem row_g (x : FVec Ideal S1024 .f32) (d : Fin 1024) :
    (shapeCast S1x1024 x shapeCasts_S1024_S1x1024 : FVec Ideal S1x1024 .f32) (ix2 0 d) = x (ix1 d) := by
  pointwise

/-! ## The blocks a point reads, at coordinates of the argument arrays -/

section Blocks
variable (c : Dev nD) (t : Fin cfg0.N)

/-- The batch row of point `t`. -/
abbrev row (t : Fin cfg0.N) : Fin 8 := ⟨t.val / 4, by have : t.val < 32 := lt_of_lt_of_eq t.isLt N_0; omega⟩
/-- The token of point `t` at row `r` of its block. -/
abbrev tok (t : Fin cfg0.N) (r : Fin 512) : Fin 2048 := ⟨t.val % 4 * 512 + r.val, by omega⟩

theorem blk0 (r k : Fin 512) : (iblk m c 0 t : FVec Ideal S1x512x512 .bf16) (ix3 0 r k)
    = (m ((c : Thread nD τ).loc main_arg0) : FVec Ideal S8x2048x512 .bf16) (ix3 (row t) (tok t r) k) := by
  rw [← V_main_arg0 m c]
  blk_ext [iblk, idx t]
theorem blk1 (r k : Fin 512) : (iblk m c 1 t : FVec Ideal S1x512x512 .bf16) (ix3 0 r k)
    = (m ((c : Thread nD τ).loc main_arg1) : FVec Ideal S8x2048x512 .bf16) (ix3 (row t) (tok t r) k) := by
  rw [← V_main_arg1 m c]
  blk_ext [iblk, idx t]
theorem blk2 (r : Fin 512) (d : Fin 1024) : (iblk m c 2 t : FVec Ideal S1x512x1024 .f32) (ix3 0 r d)
    = (m ((c : Thread nD τ).loc main_arg2) : FVec Ideal S8x2048x1024 .f32) (ix3 (row t) (tok t r) d) := by
  rw [← V_main_arg2 m c]
  blk_ext [iblk, idx t]
theorem blk3 (k d : Fin 1024) : (iblk m c 3 t : FVec Ideal S1024x1024 .bf16) (ix2 k d)
    = (m ((c : Thread nD τ).loc main_arg3) : FVec Ideal S1024x1024 .f32) (ix2 k d) := by
  rw [← V_w m c]
  blk_ext [iblk, idx t]
theorem blk4 (k : Fin 6144) : (iblk m c 4 t : FVec Ideal S1x1x6144 .f32) (ix3 0 0 k)
    = (m ((c : Thread nD τ).loc main_arg4) : FVec Ideal S16x1x6144 .f32) (ix3 ⟨(row t).val, by omega⟩ 0 k) := by
  rw [← V_main_arg4 m c]
  blk_ext [iblk, idx t]
theorem blk5 (d : Fin 1024) : (iblk m c 5 t : FVec Ideal S1x1024 .f32) (ix2 0 d)
    = (m ((c : Thread nD τ).loc main_arg5) : FVec Ideal S1024 .f32) (ix1 d) := by
  refine Eq.trans ?_ (row_g _ _)
  rw [← V_g m c]
  blk_ext [iblk, idx t]

/-- Where an entry of the first result's block lies in the array. -/
theorem emb6 (y : S1x512x1024.Idx) :
    (((cfg0.win 6).blk t).view.emb y : S8x2048x1024.Idx) = ix3 (row t) (tok t (y 1)) (y 2) := by
  blk_ext [idx t]
theorem emb7 (y : S1x512x1024.Idx) :
    (((cfg0.win 7).blk t).view.emb y : S8x2048x1024.Idx) = ix3 (row t) (tok t (y 1)) (y 2) := by
  blk_ext [idx t]

/-- The gated row of point `t` is the reference's, for any weights and gate that read as the arguments do. -/
theorem point9 (w0 w1 : FVec Ideal S512x1024 .bf16) (ga : FVec Ideal S1x1x1024 .f32)
    (hw0 : ∀ (k : Fin 512) (d : Fin 1024), w0 (ix2 k d) = (m ((c : Thread nD τ).loc main_arg3) : FVec Ideal S1024x1024 .f32) (ix2 ⟨k.val, by omega⟩ d))
    (hw1 : ∀ (k : Fin 512) (d : Fin 1024), w1 (ix2 k d) = (m ((c : Thread nD τ).loc main_arg3) : FVec Ideal S1024x1024 .f32) (ix2 ⟨512 + k.val, by omega⟩ d))
    (hga : ∀ d : Fin 1024, ga (ix3 0 0 d) = (m ((c : Thread nD τ).loc main_arg4) : FVec Ideal S16x1x6144 .f32) (ix3 ⟨(row t).val, by omega⟩ 0 ⟨2048 + d.val, by omega⟩))
    (r : Fin 512) (d : Fin 1024) :
    k0_pay2 (F := Ideal) (iblk m c 0 t) w0 (iblk m c 1 t) w1 ga (iblk m c 2 t) (ix2 r d)
      = val_main_v9 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix3 (row t) (tok t r) d) := by
  refine (pay2 _ _ _ _ _ _ r d).trans (Eq.trans ?_ (ref9 _ _ _ _ _ _ _ _).symm)
  simp only [blk0, blk1, blk2, hw0, hw1, hga]

/-- The normalised and modulated row of point `t` is the reference's. -/
theorem point29 (w0 w1 : FVec Ideal S512x1024 .bf16) (ga sh sc : FVec Ideal S1x1x1024 .f32)
    (hw0 : ∀ (k : Fin 512) (d : Fin 1024), w0 (ix2 k d) = (m ((c : Thread nD τ).loc main_arg3) : FVec Ideal S1024x1024 .f32) (ix2 ⟨k.val, by omega⟩ d))
    (hw1 : ∀ (k : Fin 512) (d : Fin 1024), w1 (ix2 k d) = (m ((c : Thread nD τ).loc main_arg3) : FVec Ideal S1024x1024 .f32) (ix2 ⟨512 + k.val, by omega⟩ d))
    (hga : ∀ d : Fin 1024, ga (ix3 0 0 d) = (m ((c : Thread nD τ).loc main_arg4) : FVec Ideal S16x1x6144 .f32) (ix3 ⟨(row t).val, by omega⟩ 0 ⟨2048 + d.val, by omega⟩))
    (hsh : ∀ d : Fin 1024, sh (ix3 0 0 d) = (m ((c : Thread nD τ).loc main_arg4) : FVec Ideal S16x1x6144 .f32) (ix3 ⟨(row t).val, by omega⟩ 0 ⟨3072 + d.val, by omega⟩))
    (hsc : ∀ d : Fin 1024, sc (ix3 0 0 d) = (m ((c : Thread nD τ).loc main_arg4) : FVec Ideal S16x1x6144 .f32) (ix3 ⟨(row t).val, by omega⟩ 0 ⟨4096 + d.val, by omega⟩))
    (r : Fin 512) (d : Fin 1024) :
    k0_pay1 (F := Ideal) (k0_pay4 (iblk m c 0 t) w0 (iblk m c 1 t) w1 ga (iblk m c 2 t)) (iblk m c 5 t) sh sc (ix3 0 r d)
      = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix3 (row t) (tok t r) d) := by
  refine (pay1 _ _ _ _ _ _ _ _ _ r d).trans (Eq.trans ?_ (ref29 _ _ _ _ _ _ _ _ _).symm)
  simp only [point9 m c t w0 w1 ga hw0 hw1 hga, blk5, hsh, hsc]

end Blocks

/-- After the run the first result array is the reference's. -/
theorem final6 (c : Dev nD) : (dats m 0 c).arrAt 6 (cfgs 0).N
    = val_main_v9 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  refine Eq.trans ?_ (congrArg _ (emb6 t y).symm)
  have hy : y = (ix3 0 (y 1) (y 2) : S1x512x1024.Idx) := by blk_ext []
  refine (congrArg _ hy).trans ((pay3 _ _ _ _ _ _ _ _).trans ?_)
  refine point9 m c t _ _ _ (fun k d => ?_) (fun k d => ?_) (fun d => ?_) (y 1) (y 2)
  · pointwise
    exact blk3 m c t _ d
  · pointwise
    exact blk3 m c t _ d
  · pointwise
    exact blk4 m c t _

/-- After the run the second result array is the reference's. -/
theorem final7 (c : Dev nD) : (dats m 0 c).arrAt 7 (cfgs 0).N
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  blk_simp
  rw [after0_7]
  frame_out
  refine Eq.trans ?_ (congrArg _ (emb7 t y).symm)
  have hy : y = (ix3 0 (y 1) (y 2) : S1x512x1024.Idx) := by blk_ext []
  refine (congrArg _ hy).trans ?_
  refine point29 m c t _ _ _ _ _ (fun k d => ?_) (fun k d => ?_) (fun d => ?_) (fun d => ?_) (fun d => ?_) (y 1) (y 2)
  · pointwise
    exact blk3 m c t _ d
  · pointwise
    exact blk3 m c t _ d
  · pointwise
    exact blk4 m c t _
  · pointwise
    exact blk4 m c t _
  · pointwise
    exact blk4 m c t _

end Cert.OutprojIdeal.Value
-- ==== Proof.FfnRef.lean ====
/-
  What the feed-forward reference computes, entry by entry: the centred convolution of the up projection, its gate, and
  the gated down projection.
-/
module

public import proofs.«01_k».proof.Proof.Gen.FfnRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnRefIdeal.Value

open Cert.FfnRefIdeal Cert.FfnRefIdeal.Gen
open Cert.FfnRefIdeal.Read

variable (x0 : FVec Ideal S8x2048x1024 .bf16) (x1 : FVec Ideal S8x2048x1024 .f32) (x2 : FVec Ideal S1024x5632 .f32)
  (x3 : FVec Ideal S3x5632 .f32) (x4 : FVec Ideal S5632 .f32) (x5 : FVec Ideal S2816x1024 .f32) (x6 : FVec Ideal S16x1x6144 .f32)

/-- Row `l` of batch row `b` of the up projection, at column `n`. -/
def up (b : Fin 8) (l : Fin 2048) (n : Fin 5632) : EReal := ∑ k : Fin 1024, x0 (ix3 b l k) * x2 (ix2 k n)

/-- The convolution over tokens, with zeros before the first token and after the last. -/
def conv (b : Fin 8) (l : Fin 2048) (n : Fin 5632) : EReal :=
  x3 (ix2 0 n) * (if h : 0 < l.val then up x0 x2 b ⟨l.val - 1, by omega⟩ n else 0) + x3 (ix2 1 n) * up x0 x2 b l n
    + x3 (ix2 2 n) * (if h : l.val + 1 < 2048 then up x0 x2 b ⟨l.val + 1, h⟩ n else 0) + x4 (ix1 n)

/-- The gate: `g` times the logistic function of `g`. -/
def silu (g : EReal) : EReal := g * Ideal.div 1 (1 + Ideal.exp (-g))

theorem v2 (b : Fin 8) (l : Fin 2048) (n : Fin 5632) : val_main_v2 (F := Ideal) x0 x2 (ix3 b l n) = up x0 x2 b l n := by
  unfold up
  pointwise [val_main_v2, val_main_v1]

theorem zero_word : (FloatOps.sitofp .f32 (0#32 : BitVec 32) : Ideal .f32) = 0 := by
  show (((0#32 : BitVec 32).toInt : ℝ) : EReal) = 0
  simp

theorem v4 (b : Fin 8) (l : Fin 2048) (n : Fin 5632) : val_main_v4 (F := Ideal) x0 x2 (ix3 b l n)
    = if h : 0 < l.val then up x0 x2 b ⟨l.val - 1, by omega⟩ n else 0 := by
  pointwise [val_main_v4, val_main_v3, val_main_call0_v0, val_main_c, v2]
  by_cases h : 0 < l.val
  · rw [dif_pos (⟨h, by omega⟩ : 1 ≤ l.val ∧ l.val - 1 < 2047), dif_pos h]
  · rw [dif_neg (fun h' => h h'.1), dif_neg h]
    exact zero_word

theorem v6 (b : Fin 8) (l : Fin 2048) (n : Fin 5632) : val_main_v6 (F := Ideal) x0 x2 (ix3 b l n)
    = if h : l.val + 1 < 2048 then up x0 x2 b ⟨l.val + 1, h⟩ n else 0 := by
  pointwise [val_main_v6, val_main_v5, val_main_call1_v0, val_main_c_0, v2]
  by_cases h : l.val < 2047
  · rw [dif_pos h, dif_pos (show l.val + 1 < 2048 by omega)]
    congr 2
    exact Nat.add_comm 1 _
  · rw [dif_neg h, dif_neg (fun h' => h (by omega))]
    exact zero_word

theorem v26 (b : Fin 8) (l : Fin 2048) (n : Fin 5632) :
    val_main_v26 (F := Ideal) x0 x2 x3 x4 (ix3 b l n) = conv x0 x2 x3 x4 b l n := by
  unfold conv
  rw [← v2, ← v4, ← v6]
  pointwise [val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7]

/-- The reference's result, entry by entry. -/
theorem v34 (b : Fin 8) (l : Fin 2048) (d : Fin 1024) :
    val_main_v34 (F := Ideal) x0 x1 x2 x3 x4 x5 x6 (ix3 b l d)
      = x1 (ix3 b l d) + x6 (ix3 ⟨b.val, by omega⟩ 0 ⟨5120 + d.val, by omega⟩)
          * ∑ n : Fin 2816, conv x0 x2 x3 x4 b l ⟨n.val, by omega⟩
              * silu (conv x0 x2 x3 x4 b l ⟨2816 + n.val, by omega⟩) * x5 (ix2 n d) := by
  simp only [← v26]
  unfold silu
  pointwise [val_main_v34, val_main_v33, val_main_v32, val_main_v31, val_main_v30, val_main_v29, val_main_call2_v5,
    val_main_call2_v4, val_main_call2_cst_0, val_main_call2_v3, val_main_call2_v2, val_main_call2_cst, val_main_call2_v1,
    val_main_call2_v0, val_main_v28, val_main_v27, val_main_v0]

end Cert.FfnRefIdeal.Value
-- ==== Proof.FfnVal.lean ====
/-
  The feed-forward call: its result array is the reference's.
-/
module

public import proofs.«01_k».proof.Proof.Gen.FfnIdeal.Value
public import proofs.«01_k».proof.Proof.FfnRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen
open Cert.FfnRefIdeal.Value (up conv silu)

/-! ## What one grid point computes, from what it loads -/

/-- The up projection of the 544 staged rows. -/
theorem pay6 (v3 : FVec Ideal S544x1024 .bf16) (v27 : FVec Ideal S1024x1408 .bf16) (j : Fin 544) (n : Fin 1408) :
    k0_pay6 (F := Ideal) v3 v27 (ix2 j n) = ∑ k : Fin 1024, v3 (ix2 j k) * v27 (ix2 k n) := by
  pointwise [k0_pay6]

theorem before (r : Fin 512) : (16 + r.val + 544 - 1) % 544 = 15 + r.val := by omega
theorem after (r : Fin 512) : (16 + r.val + 544 - 543) % 544 = 17 + r.val := by omega

/-- The row before. -/
theorem pay7 (v3 : FVec Ideal S544x1024 .bf16) (v27 : FVec Ideal S1024x1408 .bf16) (r : Fin 512) (n : Fin 1408) :
    k0_pay7 (F := Ideal) v3 v27 (ix2 r n) = ∑ k : Fin 1024, v3 (ix2 ⟨15 + r.val, by omega⟩ k) * v27 (ix2 k n) := by
  rw [← pay6]
  pointwise [k0_pay7]
  exact congrArg (fun j => k0_pay6 (F := Ideal) v3 v27 (ix2 j n)) (Fin.ext (before r))

/-- The row after. -/
theorem pay8 (v3 : FVec Ideal S544x1024 .bf16) (v27 : FVec Ideal S1024x1408 .bf16) (r : Fin 512) (n : Fin 1408) :
    k0_pay8 (F := Ideal) v3 v27 (ix2 r n) = ∑ k : Fin 1024, v3 (ix2 ⟨17 + r.val, by omega⟩ k) * v27 (ix2 k n) := by
  rw [← pay6]
  pointwise [k0_pay8]
  exact congrArg (fun j => k0_pay6 (F := Ideal) v3 v27 (ix2 j n)) (Fin.ext (after r))

/-- The convolved first half. -/
theorem pay5 (v3 : FVec Ideal S544x1024 .bf16) (v4 : FVec Ideal S1024x1408 .bf16) (v11 v14 v19 v23 : FVec Ideal S1x1408 .f32)
    (r : Fin 512) (n : Fin 1408) : k0_pay5 (F := Ideal) v3 v4 v11 v14 v19 v23 (ix2 r n)
      = v11 (ix2 0 n) * (∑ k : Fin 1024, v3 (ix2 ⟨15 + r.val, by omega⟩ k) * v4 (ix2 k n))
        + v14 (ix2 0 n) * (∑ k : Fin 1024, v3 (ix2 ⟨16 + r.val, by omega⟩ k) * v4 (ix2 k n))
        + v19 (ix2 0 n) * (∑ k : Fin 1024, v3 (ix2 ⟨17 + r.val, by omega⟩ k) * v4 (ix2 k n)) + v23 (ix2 0 n) := by
  pointwise [k0_pay5]
  simp only [before r, after r]

/-- The accumulator after one tile of the hidden columns. -/
theorem pay9 (v26 : FVec Ideal S512x1408 .f32) (v29 : FVec Ideal S544x1408 .f32) (v31 v33 : FVec Ideal S512x1408 .f32)
    (v34 v37 v42 v46 : FVec Ideal S1x1408 .f32) (v60 : FVec Ideal S512x1024 .f32) (v61 : FVec Ideal S1408x1024 .bf16)
    (r : Fin 512) (d : Fin 1024) : k0_pay9 (F := Ideal) v26 v29 v31 v33 v34 v37 v42 v46 v60 v61 (ix2 r d)
      = v60 (ix2 r d) + ∑ n : Fin 1408, v26 (ix2 r n) * silu (v34 (ix2 0 n) * v31 (ix2 r n)
          + v37 (ix2 0 n) * v29 (ix2 ⟨16 + r.val, by omega⟩ n) + v42 (ix2 0 n) * v33 (ix2 r n) + v46 (ix2 0 n)) * v61 (ix2 n d) := by
  unfold silu
  pointwise [k0_pay9]
  simp only [zero_sub]

/-- The gated residual. -/
theorem pay10 (v71 : FVec Ideal S1x512x1024 .f32) (v73 : FVec Ideal S1x1x1024 .f32) (v75 : FVec Ideal S512x1024 .f32)
    (r : Fin 512) (d : Fin 1024) : k0_pay10 (F := Ideal) v71 v73 v75 (ix3 0 r d)
      = v71 (ix3 0 r d) + v73 (ix3 0 0 d) * v75 (ix2 r d) := by
  pointwise [k0_pay10]

theorem pay4 (r : Fin 512) (d : Fin 1024) : k0_pay4 (F := Ideal) (ix2 r d) = 0 := by
  pointwise [k0_pay4]

theorem pay2 (v : FVec Ideal S1x512x1024 .bf16) (r : Fin 512) (k : Fin 1024) :
    k0_pay2 (F := Ideal) v (ix2 r k) = v (ix3 0 r k) := by
  pointwise [k0_pay2]

theorem first (q : ℕ) (hq : q < 4) : Scalar.cmpi .sgt (BitVec.ofNat 32 q) 0#32 = if 0 < q then 1#1 else 0#1 := by
  interval_cases q <;> decide
theorem last (q : ℕ) (hq : q < 4) : Scalar.cmpi .slt (BitVec.ofNat 32 q) 3#32 = if q < 3 then 1#1 else 0#1 := by
  interval_cases q <;> decide

theorem pay1 (i : grid0.Coords) (v : FVec Ideal S1x16x1024 .bf16) (r : Fin 16) (k : Fin 1024) :
    k0_pay1 (F := Ideal) i v (ix2 r k) = if 0 < (i 1).val then v (ix3 0 r k) else 0 := by
  pointwise [k0_pay1]
  rw [first (i 1).val (i 1).isLt]
  unfold Scalar.select
  by_cases h : 0 < (i 1).val <;> simp [h]

theorem pay3 (i : grid0.Coords) (v : FVec Ideal S1x16x1024 .bf16) (r : Fin 16) (k : Fin 1024) :
    k0_pay3 (F := Ideal) i v (ix2 r k) = if (i 1).val < 3 then v (ix3 0 r k) else 0 := by
  pointwise [k0_pay3]
  rw [last (i 1).val (i 1).isLt]
  unfold Scalar.select
  by_cases h : (i 1).val < 3 <;> simp [h]

/-! ## Grid points and blocks -/

variable (m : (ℓ : Loc nD τ sig) → Buf (Elt Ideal) ℓ)

/-- Point `t` works on batch row `t / 8`, the 512 tokens of block `t / 2 % 4`, and half `t % 2` of the hidden columns. -/
theorem idx : ∀ t : Fin cfg0.N, win0_0.index t = ![t.val / 8, t.val / 2 % 4, 0]
    ∧ win0_1.index t = ![t.val / 8, t.val / 2 % 4 * 32 - 1, 0]
    ∧ win0_2.index t = ![t.val / 8, min (t.val / 2 % 4 * 32 + 32) 127, 0]
    ∧ win0_3.index t = ![t.val / 8, t.val / 2 % 4, 0]
    ∧ win0_4.index t = ![0, t.val % 2] ∧ win0_5.index t = ![0, 2 + t.val % 2]
    ∧ win0_6.index t = ![0, t.val % 2] ∧ win0_7.index t = ![0, 2 + t.val % 2]
    ∧ win0_8.index t = ![0, t.val % 2] ∧ win0_9.index t = ![0, 2 + t.val % 2]
    ∧ win0_10.index t = ![t.val % 2, 0] ∧ win0_11.index t = ![t.val / 8, 0, 0]
    ∧ win0_12.index t = ![t.val / 8, t.val / 2 % 4, 0] ∧ (grid0.coords t 1).val = t.val / 2 % 4 :=
  (by decide +kernel : ∀ t : Fin grid0.N, _)

theorem V_up (c : Dev nD) : V m c main_v0 = (m ((c : Thread nD τ).loc main_arg2) : FVec Ideal S1024x5632 .f32) := by
  unfold V
  after_results
  rfl

theorem V_down (c : Dev nD) : V m c main_v1 = (m ((c : Thread nD τ).loc main_arg5) : FVec Ideal S2816x1024 .f32) := by
  unfold V
  after_results
  rfl

theorem V_b (c : Dev nD) : V m c main_v2
    = shapeCast S1x5632 (m ((c : Thread nD τ).loc main_arg4) : FVec Ideal S5632 .f32) shapeCasts_S5632_S1x5632 := by
  unfold V
  after_results
  rfl

theorem row_b (x : FVec Ideal S5632 .f32) (n : Fin 5632) :
    (shapeCast S1x5632 x shapeCasts_S5632_S1x5632 : FVec Ideal S1x5632 .f32) (ix2 0 n) = x (ix1 n) := by
  pointwise

section Blocks
variable (c : Dev nD) (t : Fin cfg0.N)

theorem t_lt (t : Fin cfg0.N) : t.val < 64 := lt_of_lt_of_eq t.isLt N_0
/-- The batch row of point `t`. -/
abbrev row (t : Fin cfg0.N) : Fin 8 := ⟨t.val / 8, by have := t_lt t; omega⟩
/-- The token of point `t` at row `r` of its block. -/
abbrev tok (t : Fin cfg0.N) (r : Fin 512) : Fin 2048 := ⟨t.val / 2 % 4 * 512 + r.val, by omega⟩
/-- The hidden column of point `t` at column `n` of its tile, among the first half. -/
abbrev colA (t : Fin cfg0.N) (n : Fin 1408) : Fin 5632 := ⟨t.val % 2 * 1408 + n.val, by omega⟩
/-- The same column among the gates. -/
abbrev colG (t : Fin cfg0.N) (n : Fin 1408) : Fin 5632 := ⟨(2 + t.val % 2) * 1408 + n.val, by omega⟩

theorem blk0 (r : Fin 512) (k : Fin 1024) : (iblk m c 0 t : FVec Ideal S1x512x1024 .bf16) (ix3 0 r k)
    = (m ((c : Thread nD τ).loc main_arg0) : FVec Ideal S8x2048x1024 .bf16) (ix3 (row t) (tok t r) k) := by
  rw [← V_main_arg0 m c]
  blk_ext [iblk, idx t]
theorem blk1 (r : Fin 16) (k : Fin 1024) : (iblk m c 1 t : FVec Ideal S1x16x1024 .bf16) (ix3 0 r k)
    = (m ((c : Thread nD τ).loc main_arg0) : FVec Ideal S8x2048x1024 .bf16)
        (ix3 (row t) ⟨(t.val / 2 % 4 * 32 - 1) * 16 + r.val, by omega⟩ k) := by
  rw [← V_main_arg0 m c]
  blk_ext [iblk, idx t]
theorem blk2 (r : Fin 16) (k : Fin 1024) : (iblk m c 2 t : FVec Ideal S1x16x1024 .bf16) (ix3 0 r k)
    = (m ((c : Thread nD τ).loc main_arg0) : FVec Ideal S8x2048x1024 .bf16)
        (ix3 (row t) ⟨min (t.val / 2 % 4 * 32 + 32) 127 * 16 + r.val, by omega⟩ k) := by
  rw [← V_main_arg0 m c]
  blk_ext [iblk, idx t]
theorem blk3 (r : Fin 512) (k : Fin 1024) : (iblk m c 3 t : FVec Ideal S1x512x1024 .f32) (ix3 0 r k)
    = (m ((c : Thread nD τ).loc main_arg1) : FVec Ideal S8x2048x1024 .f32) (ix3 (row t) (tok t r) k) := by
  rw [← V_main_arg1 m c]
  blk_ext [iblk, idx t]
theorem blk4 (k : Fin 1024) (n : Fin 1408) : (iblk m c 4 t : FVec Ideal S1024x1408 .bf16) (ix2 k n)
    = (m ((c : Thread nD τ).loc main_arg2) : FVec Ideal S1024x5632 .f32) (ix2 k (colA t n)) := by
  rw [← V_up m c]
  blk_ext [iblk, idx t]
theorem blk5 (k : Fin 1024) (n : Fin 1408) : (iblk m c 5 t : FVec Ideal S1024x1408 .bf16) (ix2 k n)
    = (m ((c : Thread nD τ).loc main_arg2) : FVec Ideal S1024x5632 .f32) (ix2 k (colG t n)) := by
  rw [← V_up m c]
  blk_ext [iblk, idx t]
theorem blk6 (j : Fin 3) (n : Fin 1408) : (iblk m c 6 t : FVec Ideal S3x1408 .f32) (ix2 j n)
    = (m ((c : Thread nD τ).loc main_arg3) : FVec Ideal S3x5632 .f32) (ix2 j (colA t n)) := by
  rw [← V_main_arg3 m c]
  blk_ext [iblk, idx t]
theorem blk7 (j : Fin 3) (n : Fin 1408) : (iblk m c 7 t : FVec Ideal S3x1408 .f32) (ix2 j n)
    = (m ((c : Thread nD τ).loc main_arg3) : FVec Ideal S3x5632 .f32) (ix2 j (colG t n)) := by
  rw [← V_main_arg3 m c]
  blk_ext [iblk, idx t]
theorem blk8 (n : Fin 1408) : (iblk m c 8 t : FVec Ideal S1x1408 .f32) (ix2 0 n)
    = (m ((c : Thread nD τ).loc main_arg4) : FVec Ideal S5632 .f32) (ix1 (colA t n)) := by
  refine Eq.trans ?_ (row_b _ _)
  rw [← V_b m c]
  blk_ext [iblk, idx t]
theorem blk9 (n : Fin 1408) : (iblk m c 9 t : FVec Ideal S1x1408 .f32) (ix2 0 n)
    = (m ((c : Thread nD τ).loc main_arg4) : FVec Ideal S5632 .f32) (ix1 (colG t n)) := by
  refine Eq.trans ?_ (row_b _ _)
  rw [← V_b m c]
  blk_ext [iblk, idx t]
theorem blk10 (n : Fin 1408) (d : Fin 1024) : (iblk m c 10 t : FVec Ideal S1408x1024 .bf16) (ix2 n d)
    = (m ((c : Thread nD τ).loc main_arg5) : FVec Ideal S2816x1024 .f32) (ix2 ⟨t.val % 2 * 1408 + n.val, by omega⟩ d) := by
  rw [← V_down m c]
  blk_ext [iblk, idx t]
theorem blk11 (k : Fin 6144) : (iblk m c 11 t : FVec Ideal S1x1x6144 .f32) (ix3 0 0 k)
    = (m ((c : Thread nD τ).loc main_arg6) : FVec Ideal S16x1x6144 .f32) (ix3 ⟨(row t).val, by omega⟩ 0 k) := by
  rw [← V_main_arg6 m c]
  blk_ext [iblk, idx t]
theorem emb12 (y : S1x512x1024.Idx) :
    (((cfg0.win 12).blk t).view.emb y : S8x2048x1024.Idx) = ix3 (row t) (tok t (y 1)) (y 2) := by
  blk_ext [idx t]

end Blocks

/-- Row `j` of the 544 rows staged for block `q` of batch row `b`: the 16 tokens before the block, its 512 tokens and the
    16 tokens after it, zero outside the sequence. -/
def staged (X : FVec Ideal S8x2048x1024 .bf16) (b : Fin 8) (q : ℕ) (j : Fin 544) (k : Fin 1024) : EReal :=
  if h : 16 ≤ q * 512 + j.val ∧ q * 512 + j.val < 2064 then X (ix3 b ⟨q * 512 + j.val - 16, by omega⟩ k) else 0

theorem staged_tok (X : FVec Ideal S8x2048x1024 .bf16) (b : Fin 8) (q : ℕ) (j : Fin 544) (k : Fin 1024) (l : Fin 2048)
    (h : q * 512 + j.val = l.val + 16) : staged X b q j k = X (ix3 b l k) := by
  unfold staged
  rw [dif_pos ⟨by omega, by omega⟩]
  exact congrArg (fun l => X (ix3 b l k)) (Fin.ext (by show q * 512 + j.val - 16 = l.val; omega))

theorem staged_out (X : FVec Ideal S8x2048x1024 .bf16) (b : Fin 8) (q : ℕ) (j : Fin 544) (k : Fin 1024)
    (h : ¬ (16 ≤ q * 512 + j.val ∧ q * 512 + j.val < 2064)) : staged X b q j k = 0 := by
  unfold staged
  exact dif_neg h

theorem staged_mem (off size : Fin S544x1024.rank → ℕ) (inb) (y : S544x1024.Idx) (h0 : off 0 ≤ y 0) (h1 : off 1 ≤ y 1)
    (g0 : (y 0).val < off 0 + size 0) (g1 : (y 1).val < off 1 + size 1) : y ∈ (Rect.unit (s := S544x1024) off size inb).set := by
  rw [Rect.mem_set_unit]
  intro a
  refine Fin.cases ?_ (fun a => Fin.cases ?_ (fun a => a.elim0) a) a
  · exact ⟨h0, g0⟩
  · exact ⟨h1, g1⟩

/-- The three pieces written at an even point cover the carried rows. -/
theorem staged_cover (j : Fin 544) (k : Fin 1024)
    (A : (Rect.unit (s := S544x1024) ![528, 0] ![16, 1024] inb_S544x1024_S16x1024_528_0).shape.Idx → Elt Ideal .bf16)
    (B : (Rect.unit (s := S544x1024) ![16, 0] ![512, 1024] inb_S544x1024_S512x1024_16_0).shape.Idx → Elt Ideal .bf16)
    (C : (Rect.unit (s := S544x1024) ![0, 0] ![16, 1024] inb_S544x1024_S16x1024_0_0).shape.Idx → Elt Ideal .bf16) :
    ∃ p ∈ ([⟨_, A⟩, ⟨_, B⟩, ⟨_, C⟩] : List (View.Piece (Elt Ideal) S544x1024 .bf16)), ix2 j k ∈ p.1.set := by
  have hj := j.isLt
  have hk := k.isLt
  by_cases h : j.val < 16
  · exact ⟨⟨_, C⟩, by simp, staged_mem _ _ inb_S544x1024_S16x1024_0_0 _ (Nat.zero_le _) (Nat.zero_le _) (by show j.val < 0 + 16; omega) (by show k.val < 0 + 1024; omega)⟩
  · by_cases h' : j.val < 528
    · exact ⟨⟨_, B⟩, by simp, staged_mem _ _ inb_S544x1024_S512x1024_16_0 _ (by show 16 ≤ j.val; omega) (Nat.zero_le _) (by show j.val < 16 + 512; omega) (by show k.val < 0 + 1024; omega)⟩
    · exact ⟨⟨_, A⟩, by simp, staged_mem _ _ inb_S544x1024_S16x1024_528_0 _ (by show 528 ≤ j.val; omega) (Nat.zero_le _) (by show j.val < 528 + 16; omega) (by show k.val < 0 + 1024; omega)⟩

/-- The rows staged from the three blocks of an even point. -/
theorem staged_canon (c : Dev nD) (t : Fin cfg0.N) (L : List (View.Piece (Elt Ideal) S544x1024 .bf16))
    (hL : L = [⟨Rect.unit ![528, 0] ![16, 1024] inb_S544x1024_S16x1024_528_0, k0_pay3 (F := Ideal) (grid0.coords t) (iblk m c 2 t)⟩,
        ⟨Rect.unit ![16, 0] ![512, 1024] inb_S544x1024_S512x1024_16_0, k0_pay2 (F := Ideal) (iblk m c 0 t)⟩,
        ⟨Rect.unit ![0, 0] ![16, 1024] inb_S544x1024_S16x1024_0_0, k0_pay1 (F := Ideal) (grid0.coords t) (iblk m c 1 t)⟩])
    (j : Fin 544) (k : Fin 1024) :
    View.canon L (ix2 j k) = staged (m ((c : Thread nD τ).loc main_arg0)) (row t) (t.val / 2 % 4) j k := by
  have hq : (grid0.coords t 1).val = t.val / 2 % 4 := by simp only [idx t]
  subst hL
  canon_tiles x e using staged_cover j k _ _ _
  · have hx : x = ix2 (x 0) k := by
      funext a
      refine Fin.cases ?_ (fun a => Fin.cases ?_ (fun a => a.elim0) a) a
      · rfl
      · exact Fin.ext e1.symm
    refine (congrArg _ hx).trans ?_
    refine (pay3 _ _ _ _).trans ?_
    rw [hq]
    have ej : j.val = 528 + (x 0).val := e0
    by_cases h : t.val / 2 % 4 < 3
    · rw [if_pos h]
      refine (blk2 m c t _ _).trans ?_
      exact (staged_tok _ _ _ _ _ _ (by show _ = min (t.val / 2 % 4 * 32 + 32) 127 * 16 + (x 0).val + 16; omega)).symm
    · rw [if_neg h]
      exact (staged_out _ _ _ _ _ (by omega)).symm
  · have hx : x = ix2 (x 0) k := by
      funext a
      refine Fin.cases ?_ (fun a => Fin.cases ?_ (fun a => a.elim0) a) a
      · rfl
      · exact Fin.ext e1.symm
    have ej : j.val = 16 + (x 0).val := e0
    refine (congrArg _ hx).trans ?_
    refine (pay2 _ _ _).trans ?_
    refine (blk0 m c t _ _).trans ?_
    exact (staged_tok _ _ _ _ _ _ (by show _ = t.val / 2 % 4 * 512 + (x 0).val + 16; omega)).symm
  · have hx : x = ix2 (x 0) k := by
      funext a
      refine Fin.cases ?_ (fun a => Fin.cases ?_ (fun a => a.elim0) a) a
      · rfl
      · exact Fin.ext e1.symm
    have ej : j.val = (x 0).val := e0
    refine (congrArg _ hx).trans ?_
    refine (pay1 _ _ _ _).trans ?_
    rw [hq]
    by_cases h : 0 < t.val / 2 % 4
    · rw [if_pos h]
      refine (blk1 m c t _ _).trans ?_
      exact (staged_tok _ _ _ _ _ _ (by show _ = (t.val / 2 % 4 * 32 - 1) * 16 + (x 0).val + 16; omega)).symm
    · rw [if_neg h]
      exact (staged_out _ _ _ _ _ (by omega)).symm

/-- The carried rows after an even point are those of its block. -/
theorem rows_A (c : Dev nD) (t : Fin cfg0.N) (h0 : t.val % 2 = 0) (h1 : ¬t.val % 2 = 1) (j : Fin 544) (k : Fin 1024) :
    (outsAt0 m c t.val t.isLt).2.1 (ix2 j k)
      = staged (m ((c : Thread nD τ).loc main_arg0)) (row t) (t.val / 2 % 4) j k := by
  rw [outsAt0_A m c t h0 h1]
  frame_out
  exact staged_canon m c t _ rfl j k

/-! ## One tile of the hidden columns -/

section Tile
variable (X : FVec Ideal S8x2048x1024 .bf16) (W : FVec Ideal S1024x5632 .f32) (b : Fin 8) (q : ℕ) (hq : q < 4) (r : Fin 512)
  (n : Fin 5632)

theorem sum_before : ∑ k : Fin 1024, staged X b q ⟨15 + r.val, by omega⟩ k * W (ix2 k n)
    = if h : 0 < q * 512 + r.val then up X W b ⟨q * 512 + r.val - 1, by omega⟩ n else 0 := by
  by_cases h : 0 < q * 512 + r.val
  · rw [dif_pos h]
    unfold up
    refine Finset.sum_congr rfl fun k _ => congrArg (· * _) ?_
    exact staged_tok _ _ _ _ _ _ (by show q * 512 + (15 + r.val) = q * 512 + r.val - 1 + 16; omega)
  · rw [dif_neg h]
    refine Finset.sum_eq_zero fun k _ => ?_
    rw [staged_out _ _ _ _ _ (by show ¬ (16 ≤ q * 512 + (15 + r.val) ∧ q * 512 + (15 + r.val) < 2064); omega), zero_mul]

theorem sum_at : ∑ k : Fin 1024, staged X b q ⟨16 + r.val, by omega⟩ k * W (ix2 k n)
    = up X W b ⟨q * 512 + r.val, by omega⟩ n := by
  unfold up
  refine Finset.sum_congr rfl fun k _ => congrArg (· * _) ?_
  exact staged_tok _ _ _ _ _ _ (by show q * 512 + (16 + r.val) = q * 512 + r.val + 16; omega)

theorem sum_after : ∑ k : Fin 1024, staged X b q ⟨17 + r.val, by omega⟩ k * W (ix2 k n)
    = if h : q * 512 + r.val + 1 < 2048 then up X W b ⟨q * 512 + r.val + 1, h⟩ n else 0 := by
  by_cases h : q * 512 + r.val + 1 < 2048
  · rw [dif_pos h]
    unfold up
    refine Finset.sum_congr rfl fun k _ => congrArg (· * _) ?_
    exact staged_tok _ _ _ _ _ _ (by show q * 512 + (17 + r.val) = q * 512 + r.val + 1 + 16; omega)
  · rw [dif_neg h]
    refine Finset.sum_eq_zero fun k _ => ?_
    rw [staged_out _ _ _ _ _ (by show ¬ (16 ≤ q * 512 + (17 + r.val) ∧ q * 512 + (17 + r.val) < 2064); omega), zero_mul]

variable (C : FVec Ideal S3x5632 .f32) (B : FVec Ideal S5632 .f32) (D : FVec Ideal S2816x1024 .f32)
  (cA cG : Fin 1408 → Fin 5632) (dn : Fin 1408 → Fin 2816) (d : Fin 1024)

/-- What one tile adds to the accumulator. -/
theorem tile (H : FVec Ideal S544x1024 .bf16) (wa wg : FVec Ideal S1024x1408 .bf16)
    (a0 a1 a2 ba g0 g1 g2 bg : FVec Ideal S1x1408 .f32) (acc : FVec Ideal S512x1024 .f32) (wd : FVec Ideal S1408x1024 .bf16)
    (hH : ∀ j k, H (ix2 j k) = staged X b q j k)
    (hwa : ∀ k n, wa (ix2 k n) = W (ix2 k (cA n))) (hwg : ∀ k n, wg (ix2 k n) = W (ix2 k (cG n)))
    (ha0 : ∀ n, a0 (ix2 0 n) = C (ix2 0 (cA n))) (ha1 : ∀ n, a1 (ix2 0 n) = C (ix2 1 (cA n)))
    (ha2 : ∀ n, a2 (ix2 0 n) = C (ix2 2 (cA n))) (hba : ∀ n, ba (ix2 0 n) = B (ix1 (cA n)))
    (hg0 : ∀ n, g0 (ix2 0 n) = C (ix2 0 (cG n))) (hg1 : ∀ n, g1 (ix2 0 n) = C (ix2 1 (cG n)))
    (hg2 : ∀ n, g2 (ix2 0 n) = C (ix2 2 (cG n))) (hbg : ∀ n, bg (ix2 0 n) = B (ix1 (cG n)))
    (hwd : ∀ n d, wd (ix2 n d) = D (ix2 (dn n) d)) :
    k0_pay9 (F := Ideal) (k0_pay5 H wa a0 a1 a2 ba) (k0_pay6 H wg) (k0_pay7 H wg) (k0_pay8 H wg) g0 g1 g2 bg acc wd (ix2 r d)
      = acc (ix2 r d) + ∑ n : Fin 1408, conv X W C B b ⟨q * 512 + r.val, by omega⟩ (cA n)
          * silu (conv X W C B b ⟨q * 512 + r.val, by omega⟩ (cG n)) * D (ix2 (dn n) d) := by
  refine (pay9 _ _ _ _ _ _ _ _ _ _ r d).trans (congrArg _ (Finset.sum_congr rfl fun n _ => ?_))
  rw [pay5, pay6, pay7, pay8]
  simp only [hH, hwa, hwg, ha0, ha1, ha2, hba, hg0, hg1, hg2, hbg, hwd, sum_before X W b q hq, sum_at X W b q hq,
    sum_after X W b q]
  rfl

end Tile

/-- What the tile of point `t` adds to the accumulator's entry. -/
def added (c : Dev nD) (t : Fin cfg0.N) (r : Fin 512) (d : Fin 1024) : EReal :=
  ∑ n : Fin 1408, conv (m ((c : Thread nD τ).loc main_arg0)) (m ((c : Thread nD τ).loc main_arg2))
      (m ((c : Thread nD τ).loc main_arg3)) (m ((c : Thread nD τ).loc main_arg4)) (row t) (tok t r) (colA t n)
    * silu (conv (m ((c : Thread nD τ).loc main_arg0)) (m ((c : Thread nD τ).loc main_arg2))
      (m ((c : Thread nD τ).loc main_arg3)) (m ((c : Thread nD τ).loc main_arg4)) (row t) (tok t r) (colG t n))
    * (m ((c : Thread nD τ).loc main_arg5) : FVec Ideal S2816x1024 .f32) (ix2 ⟨t.val % 2 * 1408 + n.val, by omega⟩ d)

/-- The accumulator after an even point. -/
theorem acc_A (c : Dev nD) (t : Fin cfg0.N) (h0 : t.val % 2 = 0) (h1 : ¬t.val % 2 = 1) (r : Fin 512) (d : Fin 1024) :
    (outsAt0 m c t.val t.isLt).2.2 (ix2 r d) = added m c t r d := by
  rw [outsAt0_A m c t h0 h1]
  frame_out
  refine (tile (m ((c : Thread nD τ).loc main_arg0)) (m ((c : Thread nD τ).loc main_arg2)) (row t) (t.val / 2 % 4) (by omega)
    r (m ((c : Thread nD τ).loc main_arg3)) (m ((c : Thread nD τ).loc main_arg4)) (m ((c : Thread nD τ).loc main_arg5))
    (colA t) (colG t) (fun n => ⟨t.val % 2 * 1408 + n.val, by omega⟩) d _ _ _ _ _ _ _ _ _ _ _ _ _
    ?_ (blk4 m c t) (blk5 m c t) ?_ ?_ ?_ (blk8 m c t) ?_ ?_ ?_ (blk9 m c t) (blk10 m c t)).trans ?_
  · intro j k
    refine (congrFun (View.readCov_eq_canon' _ _ _) _).trans ?_
    refine Eq.trans (congrArg _ ?_) (staged_canon m c t _ rfl j k)
    funext a
    refine Fin.cases ?_ (fun a => Fin.cases ?_ (fun a => a.elim0) a) a
    · exact Fin.ext (by show 0 + 1 * j.val = j.val; omega)
    · exact Fin.ext (by show 0 + 1 * k.val = k.val; omega)
  · intro n; pointwise; exact blk6 m c t 0 n
  · intro n; pointwise; exact blk6 m c t 1 n
  · intro n; pointwise; exact blk6 m c t 2 n
  · intro n; pointwise; exact blk7 m c t 0 n
  · intro n; pointwise; exact blk7 m c t 1 n
  · intro n; pointwise; exact blk7 m c t 2 n
  · rw [pay4, zero_add]
    rfl

/-- The gated residual of a row's sum. -/
def gated (x1 : FVec Ideal S8x2048x1024 .f32) (x6 : FVec Ideal S16x1x6144 .f32) (b : Fin 8) (l : Fin 2048) (d : Fin 1024)
    (s : EReal) : EReal :=
  x1 (ix3 b l d) + x6 (ix3 ⟨b.val, by omega⟩ 0 ⟨5120 + d.val, by omega⟩) * s

/-- The block written at an odd point. -/
theorem out_B (c : Dev nD) (t : Fin cfg0.N) (h0 : ¬t.val % 2 = 0) (h1 : t.val % 2 = 1) (r : Fin 512) (d : Fin 1024)
    (t' : Fin cfg0.N) (ht : t.val = t'.val + 1) :
    (outsAt0 m c t.val t.isLt).1 (ix3 0 r d)
      = gated (m ((c : Thread nD τ).loc main_arg1)) (m ((c : Thread nD τ).loc main_arg6)) (row t) (tok t r) d
          (added m c t' r d + added m c t r d) := by
  have hr : row t' = row t := Fin.ext (by show t'.val / 8 = t.val / 8; omega)
  have hq : t'.val / 2 % 4 = t.val / 2 % 4 := by omega
  have hp : ∀ h, outsAt0 m c (t.val - 1) h = outsAt0 m c t'.val t'.isLt := by
    have : t.val - 1 = t'.val := by omega
    rw [this]
    intro h
    rfl
  rw [outsAt0_B m c t h0 h1]
  frame_out
  rw [hp]
  refine (pay10 _ _ _ r d).trans ?_
  refine congrArg₂ (· + ·) (blk3 m c t r d) (congrArg₂ (· * ·) ?_ ?_)
  · pointwise
    exact blk11 m c t ⟨5120 + d.val, by omega⟩
  refine (tile (m ((c : Thread nD τ).loc main_arg0)) (m ((c : Thread nD τ).loc main_arg2)) (row t) (t.val / 2 % 4) (by omega)
    r (m ((c : Thread nD τ).loc main_arg3)) (m ((c : Thread nD τ).loc main_arg4)) (m ((c : Thread nD τ).loc main_arg5))
    (colA t) (colG t) (fun n => ⟨t.val % 2 * 1408 + n.val, by omega⟩) d _ _ _ _ _ _ _ _ _ _ _ _ _
    ?_ (blk4 m c t) (blk5 m c t) ?_ ?_ ?_ (blk8 m c t) ?_ ?_ ?_ (blk9 m c t) (blk10 m c t)).trans ?_
  · intro j k
    rw [Idealize.ShloMosaic.read_unread_whole, rows_A m c t' (by omega) (by omega), hr, hq]
  · intro n; pointwise; exact blk6 m c t 0 n
  · intro n; pointwise; exact blk6 m c t 1 n
  · intro n; pointwise; exact blk6 m c t 2 n
  · intro n; pointwise; exact blk7 m c t 0 n
  · intro n; pointwise; exact blk7 m c t 1 n
  · intro n; pointwise; exact blk7 m c t 2 n
  · rw [Idealize.ShloMosaic.read_unread_whole, acc_A m c t' (by omega) (by omega)]
    rfl

/-- A sum over the 2816 hidden columns is the sum over its two halves. -/
theorem sum_halves (f : Fin 2816 → EReal) : ∑ n : Fin 2816, f n
    = (∑ n : Fin 1408, f ⟨n.val, by omega⟩) + ∑ n : Fin 1408, f ⟨1408 + n.val, by omega⟩ :=
  Fin.sum_univ_add (a := 1408) (b := 1408) f

theorem odd_of_flush : ∀ t : Fin cfg0.N, (cfg0.win 12).flush t = true → t.val % 2 = 1 :=
  (by decide +kernel : ∀ t : Fin grid0.N, _)

/-- After the run the result array is the reference's. -/
theorem final (c : Dev nD) : (dats m 0 c).arrAt 12 (cfgs 0).N
    = Cert.FfnRefIdeal.Read.val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 12 _ (by decide +kernel) fun t hf y => ?_
  have h1 : t.val % 2 = 1 := odd_of_flush t hf
  have hlt := t_lt t
  blk_simp
  rw [after0_12]
  refine Eq.trans ?_ (congrArg _ (emb12 t y).symm)
  have hy : y = (ix3 0 (y 1) (y 2) : S1x512x1024.Idx) := by blk_ext []
  refine (congrArg _ hy).trans ?_
  have hN : t.val - 1 < cfg0.N := lt_of_le_of_lt (Nat.sub_le _ _) t.isLt
  refine (out_B m c t (by omega) h1 (y 1) (y 2) ⟨t.val - 1, hN⟩ (by show t.val = t.val - 1 + 1; omega)).trans ?_
  refine Eq.trans ?_ (Cert.FfnRefIdeal.Value.v34 _ _ _ _ _ _ _ (row t) (tok t (y 1)) (y 2)).symm
  refine congrArg₂ (· + ·) rfl (congrArg₂ (· * ·) rfl ?_)
  rw [sum_halves]
  unfold added
  refine congrArg₂ (· + ·) (Finset.sum_congr rfl fun n _ => ?_) (Finset.sum_congr rfl fun n _ => ?_)
  · have hb : row (⟨t.val - 1, hN⟩ : Fin cfg0.N) = row t := Fin.ext (by show (t.val - 1) / 8 = t.val / 8; omega)
    have hl : tok (⟨t.val - 1, hN⟩ : Fin cfg0.N) (y 1) = tok t (y 1) :=
      Fin.ext (by show (t.val - 1) / 2 % 4 * 512 + (y 1).val = t.val / 2 % 4 * 512 + (y 1).val; omega)
    have hA : colA (⟨t.val - 1, hN⟩ : Fin cfg0.N) n = ⟨n.val, by omega⟩ :=
      Fin.ext (by show (t.val - 1) % 2 * 1408 + n.val = n.val; omega)
    have hG : colG (⟨t.val - 1, hN⟩ : Fin cfg0.N) n = ⟨2816 + n.val, by omega⟩ :=
      Fin.ext (by show (2 + (t.val - 1) % 2) * 1408 + n.val = 2816 + n.val; omega)
    have hD : (⟨(t.val - 1) % 2 * 1408 + n.val, by omega⟩ : Fin 2816) = ⟨n.val, by omega⟩ :=
      Fin.ext (by show (t.val - 1) % 2 * 1408 + n.val = n.val; omega)
    rw [hb, hl, hA, hG, hD]
  · have hA : colA t n = ⟨1408 + n.val, by omega⟩ := Fin.ext (by show t.val % 2 * 1408 + n.val = 1408 + n.val; omega)
    have hG : colG t n = ⟨2816 + (1408 + n.val), by omega⟩ :=
      Fin.ext (by show (2 + t.val % 2) * 1408 + n.val = 2816 + (1408 + n.val); omega)
    have hD : (⟨t.val % 2 * 1408 + n.val, by omega⟩ : Fin 2816) = ⟨1408 + n.val, by omega⟩ :=
      Fin.ext (by show t.val % 2 * 1408 + n.val = 1408 + n.val; omega)
    rw [hA, hG, hD]

end Cert.FfnIdeal.Value
-- ==== Proof.AttnSpec.lean ====
/-
  Attention with a sink, as a function of one query's scores and values: the two ways of normalising it agree. Signed words.
-/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Attn

/-! ## Signed words -/

/-- The word of an integer. -/
def W (a : ℤ) : BitVec 32 := BitVec.ofInt 32 a

theorem W_nat (n : ℕ) : BitVec.ofNat 32 n = W n := (BitVec.ofInt_natCast 32 n).symm
theorem W_add (a b : ℤ) : IntOp.addi (W a) (W b) = W (a + b) := (BitVec.ofInt_add a b).symm
theorem W_mul (a b : ℤ) : IntOp.muli (W a) (W b) = W (a * b) := (BitVec.ofInt_mul a b).symm
theorem W_sub (a b : ℤ) : IntOp.subi (W a) (W b) = W (a - b) := by
  show BitVec.ofInt 32 a - BitVec.ofInt 32 b = BitVec.ofInt 32 (a - b)
  rw [sub_eq_add_neg, BitVec.ofInt_add, BitVec.ofInt_neg, BitVec.sub_eq_add_neg]

theorem W_toInt (a : ℤ) (h : -10000 ≤ a ∧ a ≤ 10000) : (W a).toInt = a :=
  BitVec.toInt_ofInt_eq_self (by decide) (by omega) (by omega)

theorem W_sle (a b : ℤ) (ha : -10000 ≤ a ∧ a ≤ 10000) (hb : -10000 ≤ b ∧ b ≤ 10000) :
    IntOp.cmpi .sle (W a) (W b) = if a ≤ b then 1#1 else 0#1 := by
  show BitVec.ofBool ((W a).sle (W b)) = _
  rw [BitVec.sle_eq_decide, W_toInt a ha, W_toInt b hb]
  by_cases h : a ≤ b <;> simp [h]

theorem W_slt (a b : ℤ) (ha : -10000 ≤ a ∧ a ≤ 10000) (hb : -10000 ≤ b ∧ b ≤ 10000) :
    IntOp.cmpi .slt (W a) (W b) = if a < b then 1#1 else 0#1 := by
  show BitVec.ofBool ((W a).slt (W b)) = _
  rw [BitVec.slt_eq_decide, W_toInt a ha, W_toInt b hb]
  by_cases h : a < b <;> simp [h]

theorem W_sge (a b : ℤ) (ha : -10000 ≤ a ∧ a ≤ 10000) (hb : -10000 ≤ b ∧ b ≤ 10000) :
    IntOp.cmpi .sge (W a) (W b) = if b ≤ a then 1#1 else 0#1 := W_sle b a hb ha

theorem W_sgt (a b : ℤ) (ha : -10000 ≤ a ∧ a ≤ 10000) (hb : -10000 ≤ b ∧ b ≤ 10000) :
    IntOp.cmpi .sgt (W a) (W b) = if b < a then 1#1 else 0#1 := W_slt b a hb ha

theorem W_abs (a : ℤ) (ha : -10000 ≤ a ∧ a ≤ 10000) : IntOp.absi (W a) = W |a| := by
  show (if (W a).msb then -(W a) else W a) = _
  rw [BitVec.msb_eq_toInt, W_toInt a ha]
  by_cases h : a < 0
  · rw [if_pos (by simpa using h), abs_of_neg h]
    exact BitVec.ofInt_neg.symm
  · rw [if_neg (by simpa using h), abs_of_nonneg (by omega)]

/-! ## One query -/

/-- Whether query `i` of block `n` reads key `j` of the three blocks around it. -/
def valid (n i j : ℕ) : Prop := i ≤ j ∧ j ≤ i + 256 ∧ 128 ≤ n * 128 + j ∧ n * 128 + j < 2176
instance (n i j : ℕ) : Decidable (valid n i j) := by unfold valid; infer_instance

/-- The greatest score, the sink included. -/
def peak (s : Fin 640 → EReal) (sk : EReal) : EReal := max (Finset.univ.fold max ⊥ s) sk
/-- The weight of key `j` before normalising. -/
def weight (s : Fin 640 → EReal) (sk : EReal) (j : Fin 640) : EReal := Ideal.exp (s j - peak s sk)
/-- The normaliser. -/
def norm (s : Fin 640 → EReal) (sk : EReal) : EReal := ∑ j, weight s sk j + Ideal.exp (sk - peak s sk)
/-- The values' weighted sum, normalised at the end. -/
def out (s v : Fin 640 → EReal) (sk : EReal) : EReal := (∑ j, weight s sk j * v j) * Ideal.div 1 (norm s sk)

theorem fold_eq_sup {n : ℕ} (s : Fin n → EReal) : Finset.univ.fold max ⊥ s = Finset.univ.sup s := rfl

theorem peak_real (s : Fin 640 → EReal) (sk : EReal) (hs : ∀ j, s j ≠ ⊤) (hk : sk ≠ ⊤) (hk' : sk ≠ ⊥) :
    ∃ r : ℝ, peak s sk = r := by
  have h1 : peak s sk ≠ ⊤ := by
    unfold peak
    rw [fold_eq_sup]
    refine (max_lt ?_ (lt_top_iff_ne_top.mpr hk)).ne
    rw [Finset.sup_lt_iff bot_lt_top]
    exact fun j _ => lt_top_iff_ne_top.mpr (hs j)
  have h2 : peak s sk ≠ ⊥ := fun h => hk' (le_bot_iff.mp (h ▸ le_max_right _ _))
  exact ⟨(peak s sk).toReal, (EReal.coe_toReal h1 h2).symm⟩

/-- The exponential of a number that is not `⊤`, less a real number, is a nonnegative real number. -/
theorem exp_real (x : EReal) (r : ℝ) (hx : x ≠ ⊤) : ∃ e : ℝ, 0 ≤ e ∧ Ideal.exp (x - r) = e := by
  induction x with
  | bot => exact ⟨0, le_refl _, by rw [EReal.bot_sub]; rfl⟩
  | top => exact absurd rfl hx
  | coe x => exact ⟨Real.exp (x - r), (Real.exp_pos _).le, by rw [← EReal.coe_sub]; rfl⟩

theorem norm_real (s : Fin 640 → EReal) (sk : EReal) (hs : ∀ j, s j ≠ ⊤) (hk : sk ≠ ⊤) (hk' : sk ≠ ⊥) :
    ∃ d : ℝ, 0 < d ∧ norm s sk = d := by
  obtain ⟨r, hr⟩ := peak_real s sk hs hk hk'
  have hw : ∀ j, ∃ e : ℝ, 0 ≤ e ∧ weight s sk j = e := fun j => by
    unfold weight
    rw [hr]
    exact exp_real _ _ (hs j)
  choose e he hwe using hw
  lift sk to ℝ using ⟨hk, hk'⟩
  refine ⟨∑ j, e j + Real.exp (sk - r), add_pos_of_nonneg_of_pos (Finset.sum_nonneg fun j _ => he j) (Real.exp_pos _), ?_⟩
  unfold norm
  rw [hr, EReal.coe_add, ← EReal.coe_sub]
  refine congrArg₂ (· + ·) ?_ rfl
  rw [Finset.sum_congr rfl fun j _ => hwe j]
  exact (map_sum (⟨⟨Real.toEReal, rfl⟩, EReal.coe_add⟩ : ℝ →+ EReal) e Finset.univ).symm

/-- Normalising the weights first gives the same. -/
theorem out_eq (s v : Fin 640 → EReal) (sk : EReal) (hs : ∀ j, s j ≠ ⊤) (hk : sk ≠ ⊤) (hk' : sk ≠ ⊥) :
    ∑ j, Ideal.div (weight s sk j) (norm s sk) * v j = out s v sk := by
  obtain ⟨d, hd, hn⟩ := norm_real s sk hs hk hk'
  have hne : ((d : ℝ) : EReal) ≠ 0 := by exact_mod_cast hd.ne'
  have hc : Ideal.div 1 (d : EReal) = ((d⁻¹ : ℝ) : EReal) := by
    unfold Ideal.div
    rw [if_neg hne, one_mul, EReal.coe_inv]
  unfold out
  rw [hn, hc]
  have hsum : ∀ f : Fin 640 → EReal, (∑ j, f j) * ((d⁻¹ : ℝ) : EReal) = ∑ j, f j * ((d⁻¹ : ℝ) : EReal) := fun f => by
    induction (Finset.univ : Finset (Fin 640)) using Finset.induction_on with
    | empty => simp
    | insert a S ha ih =>
      rw [Finset.sum_insert ha, Finset.sum_insert ha, ← ih]
      exact EReal.right_distrib_of_nonneg_of_ne_top (by exact_mod_cast (inv_pos.mpr hd).le) (EReal.coe_ne_top _) _ _
  rw [hsum]
  refine Finset.sum_congr rfl fun j _ => ?_
  unfold Ideal.div
  rw [if_neg hne, ← EReal.coe_inv, mul_right_comm]

/-- The scores with the sink as the last of them. -/
def withSink (s : Fin 640 → EReal) (sk : EReal) (j : Fin 641) : EReal := if h : j.val < 640 then s ⟨j.val, h⟩ else sk

theorem withSink_castSucc (s : Fin 640 → EReal) (sk : EReal) (j : Fin 640) : withSink s sk j.castSucc = s j := by
  unfold withSink
  exact dif_pos j.isLt
theorem withSink_last (s : Fin 640 → EReal) (sk : EReal) : withSink s sk (Fin.last 640) = sk := by
  unfold withSink
  exact dif_neg (by simp)

theorem fold_withSink (s : Fin 640 → EReal) (sk : EReal) : Finset.univ.fold max ⊥ (withSink s sk) = peak s sk := by
  unfold peak
  rw [fold_eq_sup, fold_eq_sup]
  refine le_antisymm (Finset.sup_le fun j _ => ?_) (max_le (Finset.sup_le fun j _ => ?_) ?_)
  · induction j using Fin.lastCases with
    | last => rw [withSink_last]; exact le_max_right _ _
    | cast j => rw [withSink_castSucc]; exact le_max_of_le_left (Finset.le_sup (f := s) (Finset.mem_univ j))
  · rw [← withSink_castSucc s sk j]
    exact Finset.le_sup (f := withSink s sk) (Finset.mem_univ _)
  · rw [← withSink_last s sk]
    exact Finset.le_sup (f := withSink s sk) (Finset.mem_univ _)

theorem sum_withSink (s : Fin 640 → EReal) (sk : EReal) :
    ∑ j, Ideal.exp (withSink s sk j - peak s sk) = norm s sk := by
  rw [Fin.sum_univ_castSucc, withSink_last]
  simp only [withSink_castSucc]
  rfl

end Attn
-- ==== Proof.AttnPay.lean ====
/-
  What the attention body computes from the blocks it loads, entry by entry.
-/
module

public import proofs.«01_k».proof.Proof.Gen.AttnIdeal.Value
public import proofs.«01_k».proof.Proof.AttnSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

theorem neg_inf : (Ideal.ofBits .f32 0xFF800000#32 : EReal) = ⊥ := by simp [Ideal.ofBits, Ideal.ieee]

/-- The largest of a row's scores and the sink. -/
def rowMax (S : FVec Ideal S128x640 .f32) (sk : Ideal .f32) : FVec Ideal S128x1 .f32 :=
  maximumf (shapeCast S128x1 (multiReduction .maximumf [1] S128 S 0xFF800000#32 reduces_S128x640_S128 (.inl rfl) rfl) shapeCasts_S128_S128x1)
    (broadcast S128x1 sk)

/-- The exponentials of a row's scores. -/
def rowExp (S : FVec Ideal S128x640 .f32) (sk : Ideal .f32) : FVec Ideal S128x640 .f32 :=
  exp (subf S (broadcastTo S128x640 (rowMax S sk) broadcasts_S128x1_S128x640))

/-- One head: the values `V` weighted by the softmax of the scores `S` with the sink `sk`. -/
def head (S : FVec Ideal S128x640 .f32) (V : FVec Ideal S640x128 .bf16) (sk : Ideal .f32) : FVec Ideal S128x128 .f32 :=
  k0_pay34 V sk (rowMax S sk) (rowExp S sk)

theorem rowMax_apply (S : FVec Ideal S128x640 .f32) (sk : Ideal .f32) (i : Fin 128) :
    rowMax S sk (ix2 i 0) = Attn.peak (fun j => S (ix2 i j)) sk := by
  unfold rowMax Attn.peak
  pointwise [neg_inf]

theorem rowExp_apply (S : FVec Ideal S128x640 .f32) (sk : Ideal .f32) (i : Fin 128) (j : Fin 640) :
    rowExp S sk (ix2 i j) = Attn.weight (fun j => S (ix2 i j)) sk j := by
  unfold rowExp Attn.weight
  pointwise [rowMax_apply]

theorem pay34 (V : FVec Ideal S640x128 .bf16) (sk : Ideal .f32) (M : FVec Ideal S128x1 .f32) (E : FVec Ideal S128x640 .f32)
    (i : Fin 128) (l : Fin 128) : k0_pay34 V sk M E (ix2 i l)
      = (∑ j : Fin 640, E (ix2 i j) * V (ix2 j l)) * Ideal.div 1 (∑ j : Fin 640, E (ix2 i j) + Ideal.exp (sk - M (ix2 i 0))) := by
  pointwise [k0_pay34]

theorem head_apply (S : FVec Ideal S128x640 .f32) (V : FVec Ideal S640x128 .bf16) (sk : Ideal .f32) (i : Fin 128) (l : Fin 128) :
    head S V sk (ix2 i l) = Attn.out (fun j => S (ix2 i j)) (fun j => V (ix2 j l)) sk := by
  unfold head Attn.out Attn.norm
  rw [pay34, rowMax_apply]
  simp only [rowExp_apply]

/-- The lanes of a row of keys. -/
def lanes : IVec S640x128 32 := iota .tc S640x128 32 [1] iota_S640x128_d1_w32

theorem lo (j : Fin 640) (l : Fin 128) : k0_pay27 lanes (ix2 j l) = if l.val < 64 then 1#1 else 0#1 := by
  unfold lanes
  pointwise [k0_pay27]
  exact (Attn.W_slt l.val 64 (by omega) (by omega)).trans (by simp)

theorem hi (j : Fin 640) (l : Fin 128) : k0_pay35 lanes (ix2 j l) = if l.val < 64 then 0#1 else 1#1 := by
  unfold lanes
  pointwise [k0_pay35]
  refine (Attn.W_sge l.val 64 (by omega) (by omega)).trans ?_
  by_cases g : l.val < 64
  · rw [if_pos g, if_neg (by omega)]
  · rw [if_neg g, if_pos (by omega)]

theorem zero16 : (Ideal.ofBits .bf16 0x0000#16 : EReal) = 0 := by simp [Ideal.ofBits, Ideal.ieee]

/-- The four half-masked parts of the values. -/
theorem pay10 (V : FVec Ideal S640x256 .bf16) (j : Fin 640) (l : Fin 128) :
    k0_pay10 V (ix2 j l) = if l.val < 64 then V (ix2 j ⟨l.val, by omega⟩) else 0 := by
  unfold k0_pay10
  pointwise [show k0_pay9 = k0_pay27 lanes from rfl, lo, zero16]
  by_cases g : l.val < 64
  · rw [if_pos g, if_pos g]; rfl
  · rw [if_neg g, if_neg g]; rfl

theorem pay28 (V : FVec Ideal S640x256 .bf16) (j : Fin 640) (l : Fin 128) :
    k0_pay28 V lanes (ix2 j l) = if l.val < 64 then V (ix2 j ⟨128 + l.val, by omega⟩) else 0 := by
  pointwise [k0_pay28, lo, zero16]
  by_cases g : l.val < 64
  · rw [if_pos g, if_pos g]; rfl
  · rw [if_neg g, if_neg g]; rfl

theorem pay19 (V : FVec Ideal S640x256 .bf16) (j : Fin 640) (l : Fin 128) :
    k0_pay19 V lanes (ix2 j l) = if l.val < 64 then 0 else V (ix2 j ⟨128 + l.val, by omega⟩) := by
  unfold k0_pay19
  pointwise [show k0_pay18 lanes = k0_pay35 lanes from rfl, hi, zero16]
  by_cases g : l.val < 64
  · rw [if_pos g, if_pos g]; rfl
  · rw [if_neg g, if_neg g]; rfl

theorem pay36 (V : FVec Ideal S640x256 .bf16) (j : Fin 640) (l : Fin 128) :
    k0_pay36 V lanes (ix2 j l) = if l.val < 64 then 0 else V (ix2 j ⟨l.val, by omega⟩) := by
  pointwise [k0_pay36, hi, zero16]
  by_cases g : l.val < 64
  · rw [if_pos g, if_pos g]; rfl
  · rw [if_neg g, if_neg g]; rfl

/-- The rows of two heads' queries. -/
theorem pay8 (q : FVec Ideal S1x128x512 .bf16) (r : Fin 256) (k : Fin 128) :
    k0_pay8 q (ix2 r k) = q (ix3 0 ⟨r.val % 128, by omega⟩ ⟨r.val / 128 * 128 + k.val, by omega⟩) := by
  pointwise [k0_pay8, k0_pay7]
  by_cases g : r.val < 128
  · rw [dif_pos g]
    exact congrArg q (congrArg₂ (ix3 (0 : Fin 1)) (Fin.ext (by show r.val = r.val % 128; omega)) (Fin.ext (by show k.val = r.val / 128 * 128 + k.val; omega)))
  · rw [dif_neg g]
    exact congrArg q (congrArg₂ (ix3 (0 : Fin 1)) (Fin.ext (by show r.val - 128 = r.val % 128; omega)) (Fin.ext (by show 128 + k.val = r.val / 128 * 128 + k.val; omega)))

theorem pay26 (q : FVec Ideal S1x128x512 .bf16) (r : Fin 256) (k : Fin 128) :
    k0_pay26 (k0_pay7 q) (ix2 r k) = q (ix3 0 ⟨r.val % 128, by omega⟩ ⟨256 + r.val / 128 * 128 + k.val, by omega⟩) := by
  pointwise [k0_pay26, k0_pay7]
  by_cases g : r.val < 128
  · rw [dif_pos g]
    exact congrArg q (congrArg₂ (ix3 (0 : Fin 1)) (Fin.ext (by show r.val = r.val % 128; omega)) (Fin.ext (by show 256 + k.val = 256 + r.val / 128 * 128 + k.val; omega)))
  · rw [dif_neg g]
    exact congrArg q (congrArg₂ (ix3 (0 : Fin 1)) (Fin.ext (by show r.val - 128 = r.val % 128; omega)) (Fin.ext (by show 384 + k.val = 256 + r.val / 128 * 128 + k.val; omega)))

/-- The products of the queries with the half-masked keys. -/
theorem product (Q : FVec Ideal S256x128 .bf16) (K : FVec Ideal S640x128 .bf16) (r : Fin 256) (j : Fin 640) :
    matmul dot_S256x128_S640x128_S256x640_1_1_0_0_n_n none Q K (constant S256x640 .f32 0x00000000#32) (ix2 r j)
      = ∑ k : Fin 128, Q (ix2 r k) * K (ix2 j k) := by
  pointwise []

/-- The scores of the first or of the second half of the rows. -/
def scoreLo (P : FVec Ideal S256x640 .f32) (bias : FVec Ideal S128x640 .f32) : FVec Ideal S128x640 .f32 :=
  addf (extractStridedSlice S128x640 ![0, 0] P slices_S256x640_o0_0_S128x640) bias
def scoreHi (P : FVec Ideal S256x640 .f32) (bias : FVec Ideal S128x640 .f32) : FVec Ideal S128x640 .f32 :=
  addf (extractStridedSlice S128x640 ![128, 0] P slices_S256x640_o128_0_S128x640) bias

theorem scoreLo_apply (P : FVec Ideal S256x640 .f32) (bias : FVec Ideal S128x640 .f32) (i : Fin 128) (j : Fin 640) :
    scoreLo P bias (ix2 i j) = P (ix2 ⟨i.val, by omega⟩ j) + bias (ix2 i j) := by
  pointwise [scoreLo]
theorem scoreHi_apply (P : FVec Ideal S256x640 .f32) (bias : FVec Ideal S128x640 .f32) (i : Fin 128) (j : Fin 640) :
    scoreHi P bias (ix2 i j) = P (ix2 ⟨128 + i.val, by omega⟩ j) + bias (ix2 i j) := by
  pointwise [scoreHi]

/-- Two heads side by side in 128 lanes. -/
theorem pair1 (a : FVec Ideal S128x128 .f32) (i l : Fin 128) : k0_pay1 a (ix3 0 i l) = a (ix2 i l) := by
  pointwise [k0_pay1]
theorem pair25 (a : FVec Ideal S128x128 .bf16) (i l : Fin 128) : k0_pay25 a (ix3 0 i l) = a (ix2 i l) := by
  pointwise [k0_pay25]

theorem pay3 (a b c : FVec Ideal S1x128x256 .bf16) (d : FVec Ideal S1x256x256 .bf16) (j : Fin 640) (l : Fin 256) :
    k0_pay3 a b c d (ix2 j l) = if h : j.val < 128 then a (ix3 0 ⟨j.val, h⟩ l) else if h : j.val - 128 < 128 then b (ix3 0 ⟨j.val - 128, h⟩ l)
      else if h : j.val - 128 - 128 < 128 then c (ix3 0 ⟨j.val - 128 - 128, h⟩ l) else d (ix3 0 ⟨j.val - 128 - 128 - 128, by omega⟩ l) := by
  pointwise [k0_pay3]

/-- How far key `j` lies after query `i`. -/
theorem pay5 (i : Fin 128) (j : Fin 640) : k0_pay5 (ix2 i j) = Attn.W ((j.val : ℤ) - 128 - i.val) := by
  pointwise [k0_pay5]
  rw [show (128#32 : BitVec 32) = Attn.W 128 from rfl, Attn.W_nat, Attn.W_nat]
  exact (congrArg (IntOp.subi · _) (Attn.W_sub _ _)).trans (Attn.W_sub _ _)

/-- The columns of the scores. -/
def cols : IVec S128x640 32 := iota .tc S128x640 32 [1] iota_S128x640_d1_w32

/-- The least and the largest distance that the first and the last of the three blocks may lie at: none where there is no such block. -/
def least (n : ℕ) : BitVec 32 := Scalar.select (Scalar.cmpi .sgt (BitVec.ofNat 32 n) 0#32) 4294967168#32 512#32
def most (n : ℕ) : BitVec 32 := Scalar.select (Scalar.cmpi .slt (BitVec.ofNat 32 n) 15#32) 128#32 4294966784#32

theorem least_eq (n : Fin 16) : least n = Attn.W (if 0 < n.val then -128 else 512) := by
  unfold least Attn.W
  revert n
  decide
theorem most_eq (n : Fin 16) : most n = Attn.W (if n.val < 15 then 128 else -512) := by
  unfold most Attn.W
  revert n
  decide

theorem mask_word : (Named.named κ "mask" 0xF149F2CA#32 : Ideal .f32) = ⊥ := rfl

theorem select_le {p : Prop} [Decidable p] (a b : EReal) : Scalar.select (if p then 1#1 else 0#1) a b = if p then a else b := by
  by_cases g : p
  · rw [if_pos g, if_pos g]; rfl
  · rw [if_neg g, if_neg g]; rfl

/-- What the body adds to the scores: nothing at a valid key, `⊥` elsewhere. -/
theorem bias (n : Fin 16) (i : Fin 128) (j : Fin 640) :
    k0_pay6 (F := Ideal) cols k0_pay5 (least n) (most n) (ix2 i j) = if j.val < 384 → Attn.valid n i j then 0 else ⊥ := by
  have hn := n.isLt
  have hi := i.isLt
  have hj := j.isLt
  unfold cols
  pointwise [k0_pay6, pay5, mask_word]
  rw [least_eq, most_eq, show (128#32 : BitVec 32) = Attn.W 128 from rfl, show (256#32 : BitVec 32) = Attn.W 256 from rfl,
    show (384#32 : BitVec 32) = Attn.W 384 from rfl, Attn.W_nat,
    Attn.W_slt _ _ (by omega) (by omega), Attn.W_slt _ _ (by omega) (by omega), Attn.W_slt _ _ (by omega) (by omega),
    Attn.W_sge _ _ (by omega) (by split <;> omega), Attn.W_sle _ _ (by omega) (by split <;> omega)]
  simp only [select_le]
  unfold Attn.valid
  by_cases h1 : (j.val : ℤ) < 128
  · rw [if_pos h1]
    refine if_congr ?_ rfl rfl
    split <;> omega
  · rw [if_neg h1]
    by_cases h2 : (j.val : ℤ) < 256
    · rw [if_pos h2, if_pos (by omega)]
    · rw [if_neg h2]
      by_cases h3 : (j.val : ℤ) < 384
      · rw [if_pos h3]
        refine if_congr ?_ rfl rfl
        split <;> omega
      · rw [if_neg h3, if_pos (by omega)]

end Cert.AttnIdeal.Value
-- ==== Proof.AttnHeads.lean ====
/-
  The four stores of the attention body, each of two heads, from the blocks it loads.
-/
module

public import proofs.«01_k».proof.Proof.Gen.AttnIdeal.Value
public import proofs.«01_k».proof.Proof.AttnPay
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (q : FVec Ideal S1x128x512 .bf16) (K V : FVec Ideal S640x256 .bf16)

/-- The lower half of a masked row, and the upper half. -/
theorem sum_lo (f g : Fin 128 → EReal) :
    ∑ k : Fin 128, f k * (if k.val < 64 then g k else 0) = ∑ d : Fin 64, f ⟨d.val, by omega⟩ * g ⟨d.val, by omega⟩ := by
  refine (Fin.sum_univ_add (a := 64) (b := 64) _).trans ?_
  refine (congrArg₂ (· + ·) (Finset.sum_congr rfl fun d _ => ?_) (Finset.sum_eq_zero fun d _ => ?_)).trans (add_zero _)
  · rw [if_pos (by show d.val < 64; omega)]
    rfl
  · rw [if_neg (by show ¬ 64 + d.val < 64; omega), mul_zero]

theorem sum_hi (f g : Fin 128 → EReal) :
    ∑ k : Fin 128, f k * (if k.val < 64 then 0 else g k) = ∑ d : Fin 64, f ⟨64 + d.val, by omega⟩ * g ⟨64 + d.val, by omega⟩ := by
  refine (Fin.sum_univ_add (a := 64) (b := 64) _).trans ?_
  refine (congrArg₂ (· + ·) (Finset.sum_eq_zero fun d _ => ?_) (Finset.sum_congr rfl fun d _ => ?_)).trans (zero_add _)
  · rw [if_pos (by show d.val < 64; omega), mul_zero]
  · rw [if_neg (by show ¬ 64 + d.val < 64; omega)]
    rfl

theorem add_mask {p : Prop} [Decidable p] (x : EReal) : x + (if p then 0 else ⊥) = if p then x else ⊥ := by
  by_cases g : p
  · rw [if_pos g, if_pos g, add_zero]
  · rw [if_neg g, if_neg g, EReal.add_bot]

/-- The masked scores of the query lanes from `a` on with the key lanes from `e` on. -/
def sc (n : Fin 16) (i : Fin 128) (a e : ℕ) (ha : a + 64 ≤ 512) (he : e + 64 ≤ 256) (j : Fin 640) : EReal :=
  if j.val < 384 → Attn.valid n i j then
    ∑ d : Fin 64, q (ix3 0 i ⟨a + d.val, by omega⟩) * K (ix2 j ⟨e + d.val, by omega⟩) else ⊥

/-- What the body adds to the scores. -/
def bias' (n : Fin 16) : FVec Ideal S128x640 .f32 := k0_pay6 (F := Ideal) cols k0_pay5 (least n) (most n)
/-- The products of query rows with key rows. -/
def prod' (Q : FVec Ideal S256x128 .bf16) (M : FVec Ideal S640x128 .bf16) : FVec Ideal S256x640 .f32 :=
  matmul dot_S256x128_S640x128_S256x640_1_1_0_0_n_n none Q M (constant S256x640 .f32 0x00000000#32)

theorem product' (Q : FVec Ideal S256x128 .bf16) (M : FVec Ideal S640x128 .bf16) (r : Fin 256) (j : Fin 640) :
    prod' Q M (ix2 r j) = ∑ k : Fin 128, Q (ix2 r k) * M (ix2 j k) := product Q M r j
theorem bias_apply (n : Fin 16) (i : Fin 128) (j : Fin 640) :
    bias' n (ix2 i j) = if j.val < 384 → Attn.valid n i j then 0 else ⊥ := bias n i j

theorem sc0 (n : Fin 16) (i : Fin 128) (j : Fin 640) :
    scoreLo (prod' (k0_pay8 q) (k0_pay10 K)) (bias' n) (ix2 i j) = sc q K n i 0 0 (by omega) (by omega) j := by
  rw [scoreLo_apply, product', bias_apply, add_mask]
  unfold sc
  refine if_congr Iff.rfl ?_ rfl
  simp only [pay8, pay10]
  rw [sum_lo (fun k => q (ix3 0 ⟨i.val % 128, by omega⟩ ⟨i.val / 128 * 128 + k.val, by omega⟩)) (fun k => K (ix2 j ⟨k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show i.val % 128 = i.val; omega
  · show i.val / 128 * 128 + d.val = 0 + d.val; omega
  · show d.val = 0 + d.val; omega

theorem sc2 (n : Fin 16) (i : Fin 128) (j : Fin 640) :
    scoreHi (prod' (k0_pay8 q) (k0_pay10 K)) (bias' n) (ix2 i j) = sc q K n i 128 0 (by omega) (by omega) j := by
  rw [scoreHi_apply, product', bias_apply, add_mask]
  unfold sc
  refine if_congr Iff.rfl ?_ rfl
  simp only [pay8, pay10]
  rw [sum_lo (fun k => q (ix3 0 ⟨(128 + i.val) % 128, by omega⟩ ⟨(128 + i.val) / 128 * 128 + k.val, by omega⟩)) (fun k => K (ix2 j ⟨k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show (128 + i.val) % 128 = i.val; omega
  · show (128 + i.val) / 128 * 128 + d.val = 128 + d.val; omega
  · show d.val = 0 + d.val; omega

theorem sc1 (n : Fin 16) (i : Fin 128) (j : Fin 640) :
    scoreLo (prod' (k0_pay8 q) (k0_pay19 K lanes)) (bias' n) (ix2 i j) = sc q K n i 64 192 (by omega) (by omega) j := by
  rw [scoreLo_apply, product', bias_apply, add_mask]
  unfold sc
  refine if_congr Iff.rfl ?_ rfl
  simp only [pay8, pay19]
  rw [sum_hi (fun k => q (ix3 0 ⟨i.val % 128, by omega⟩ ⟨i.val / 128 * 128 + k.val, by omega⟩)) (fun k => K (ix2 j ⟨128 + k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show i.val % 128 = i.val; omega
  · show i.val / 128 * 128 + (64 + d.val) = 64 + d.val; omega
  · show 128 + (64 + d.val) = 192 + d.val; omega

theorem sc3 (n : Fin 16) (i : Fin 128) (j : Fin 640) :
    scoreHi (prod' (k0_pay8 q) (k0_pay19 K lanes)) (bias' n) (ix2 i j) = sc q K n i 192 192 (by omega) (by omega) j := by
  rw [scoreHi_apply, product', bias_apply, add_mask]
  unfold sc
  refine if_congr Iff.rfl ?_ rfl
  simp only [pay8, pay19]
  rw [sum_hi (fun k => q (ix3 0 ⟨(128 + i.val) % 128, by omega⟩ ⟨(128 + i.val) / 128 * 128 + k.val, by omega⟩)) (fun k => K (ix2 j ⟨128 + k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show (128 + i.val) % 128 = i.val; omega
  · show (128 + i.val) / 128 * 128 + (64 + d.val) = 192 + d.val; omega
  · show 128 + (64 + d.val) = 192 + d.val; omega

theorem sc4 (n : Fin 16) (i : Fin 128) (j : Fin 640) :
    scoreLo (prod' (k0_pay26 (k0_pay7 q)) (k0_pay28 K lanes)) (bias' n) (ix2 i j) = sc q K n i 256 128 (by omega) (by omega) j := by
  rw [scoreLo_apply, product', bias_apply, add_mask]
  unfold sc
  refine if_congr Iff.rfl ?_ rfl
  simp only [pay26, pay28]
  rw [sum_lo (fun k => q (ix3 0 ⟨i.val % 128, by omega⟩ ⟨256 + i.val / 128 * 128 + k.val, by omega⟩)) (fun k => K (ix2 j ⟨128 + k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show i.val % 128 = i.val; omega
  · show 256 + i.val / 128 * 128 + d.val = 256 + d.val; omega
  · rfl

theorem sc6 (n : Fin 16) (i : Fin 128) (j : Fin 640) :
    scoreHi (prod' (k0_pay26 (k0_pay7 q)) (k0_pay28 K lanes)) (bias' n) (ix2 i j) = sc q K n i 384 128 (by omega) (by omega) j := by
  rw [scoreHi_apply, product', bias_apply, add_mask]
  unfold sc
  refine if_congr Iff.rfl ?_ rfl
  simp only [pay26, pay28]
  rw [sum_lo (fun k => q (ix3 0 ⟨(128 + i.val) % 128, by omega⟩ ⟨256 + (128 + i.val) / 128 * 128 + k.val, by omega⟩)) (fun k => K (ix2 j ⟨128 + k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show (128 + i.val) % 128 = i.val; omega
  · show 256 + (128 + i.val) / 128 * 128 + d.val = 384 + d.val; omega
  · rfl

theorem sc5 (n : Fin 16) (i : Fin 128) (j : Fin 640) :
    scoreLo (prod' (k0_pay26 (k0_pay7 q)) (k0_pay36 K lanes)) (bias' n) (ix2 i j) = sc q K n i 320 64 (by omega) (by omega) j := by
  rw [scoreLo_apply, product', bias_apply, add_mask]
  unfold sc
  refine if_congr Iff.rfl ?_ rfl
  simp only [pay26, pay36]
  rw [sum_hi (fun k => q (ix3 0 ⟨i.val % 128, by omega⟩ ⟨256 + i.val / 128 * 128 + k.val, by omega⟩)) (fun k => K (ix2 j ⟨k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show i.val % 128 = i.val; omega
  · show 256 + i.val / 128 * 128 + (64 + d.val) = 320 + d.val; omega
  · rfl

theorem sc7 (n : Fin 16) (i : Fin 128) (j : Fin 640) :
    scoreHi (prod' (k0_pay26 (k0_pay7 q)) (k0_pay36 K lanes)) (bias' n) (ix2 i j) = sc q K n i 448 64 (by omega) (by omega) j := by
  rw [scoreHi_apply, product', bias_apply, add_mask]
  unfold sc
  refine if_congr Iff.rfl ?_ rfl
  simp only [pay26, pay36]
  rw [sum_hi (fun k => q (ix3 0 ⟨(128 + i.val) % 128, by omega⟩ ⟨256 + (128 + i.val) / 128 * 128 + k.val, by omega⟩)) (fun k => K (ix2 j ⟨k.val, by omega⟩))]
  refine Finset.sum_congr rfl fun d _ => congrArg₂ (· * ·) (congrArg q (congrArg₂ (ix3 0) (Fin.ext ?_) (Fin.ext ?_))) (congrArg K (congrArg (ix2 j) (Fin.ext ?_)))
  · show (128 + i.val) % 128 = i.val; omega
  · show 256 + (128 + i.val) / 128 * 128 + (64 + d.val) = 448 + d.val; omega
  · rfl

/-- A head with no values contributes nothing. -/
theorem out_zero (s : Fin 640 → EReal) (sk : EReal) : Attn.out s (fun _ => 0) sk = 0 := by
  unfold Attn.out
  rw [Finset.sum_eq_zero fun j _ => mul_zero _, zero_mul]

/-- Two heads added: the first holds the lower 64 lanes of its values, the second the upper 64. -/
theorem two (S0 S1 : FVec Ideal S128x640 .f32) (V0 V1 : FVec Ideal S640x128 .bf16) (s0 s1 : Ideal .f32) (i l : Fin 128)
    (t0 t1 u0 u1 : Fin 640 → EReal) (h0 : ∀ j, S0 (ix2 i j) = t0 j) (h1 : ∀ j, S1 (ix2 i j) = t1 j)
    (g0 : ∀ j, V0 (ix2 j l) = if l.val < 64 then u0 j else 0) (g1 : ∀ j, V1 (ix2 j l) = if l.val < 64 then 0 else u1 j) :
    k0_pay1 (addf (head S0 V0 s0) (head S1 V1 s1)) (ix3 0 i l) = if l.val < 64 then Attn.out t0 u0 s0 else Attn.out t1 u1 s1 := by
  rw [pair1]
  show head S0 V0 s0 (ix2 i l) + head S1 V1 s1 (ix2 i l) = _
  rw [head_apply, head_apply]
  simp only [h0, h1, g0, g1]
  by_cases g : l.val < 64
  · simp only [if_pos g]
    rw [out_zero, add_zero]
  · simp only [if_neg g]
    rw [out_zero, zero_add]

/-- The four stores, each of two heads. -/
theorem store0 (n : Fin 16) (s0 s1 : Ideal .f32) (i l : Fin 128) :
    k0_pay23 (k0_pay16 (k0_pay10 V) s0 (k0_pay13 K cols k0_pay5 (least n) (most n) q s0) (k0_pay14 K cols k0_pay5 (least n) (most n) q s0)
        (k0_pay15 K cols k0_pay5 (least n) (most n) q s0)) (k0_pay19 V lanes) (k0_pay21 K (bias' n) lanes (k0_pay8 q)) s1
        (k0_pay22 K (bias' n) lanes (k0_pay8 q)) (ix3 0 i l)
      = if l.val < 64 then Attn.out (sc q K n i 0 0 (by omega) (by omega)) (fun j => V (ix2 j ⟨l.val, by omega⟩)) s0
        else Attn.out (sc q K n i 64 192 (by omega) (by omega)) (fun j => V (ix2 j ⟨128 + l.val, by omega⟩)) s1 :=
  two (scoreLo (prod' (k0_pay8 q) (k0_pay10 K)) (bias' n)) (scoreLo (prod' (k0_pay8 q) (k0_pay19 K lanes)) (bias' n)) _ _ s0 s1 i l _ _ _ _
    (sc0 q K n i) (sc1 q K n i) (fun j => pay10 V j l) (fun j => pay19 V j l)

theorem store1 (n : Fin 16) (s2 s3 : Ideal .f32) (i l : Fin 128) :
    k0_pay25 (k0_pay24 (bias' n) (k0_pay17 (bias' n) (k0_pay10 V) (k0_pay11 K q) s2) (k0_pay19 V lanes) (k0_pay20 K lanes (k0_pay8 q)) s3) (ix3 0 i l)
      = if l.val < 64 then Attn.out (sc q K n i 128 0 (by omega) (by omega)) (fun j => V (ix2 j ⟨l.val, by omega⟩)) s2
        else Attn.out (sc q K n i 192 192 (by omega) (by omega)) (fun j => V (ix2 j ⟨128 + l.val, by omega⟩)) s3 :=
  two (scoreHi (prod' (k0_pay8 q) (k0_pay10 K)) (bias' n)) (scoreHi (prod' (k0_pay8 q) (k0_pay19 K lanes)) (bias' n)) _ _ s2 s3 i l _ _ _ _
    (sc2 q K n i) (sc3 q K n i) (fun j => pay10 V j l) (fun j => pay19 V j l)

theorem store2 (n : Fin 16) (s4 s5 : Ideal .f32) (i l : Fin 128) :
    k0_pay1 (k0_pay38 K V (bias' n) lanes (k0_pay26 (k0_pay7 q)) (k0_pay30 K V (bias' n) lanes (k0_pay7 q) s4) s5) (ix3 0 i l)
      = if l.val < 64 then Attn.out (sc q K n i 256 128 (by omega) (by omega)) (fun j => V (ix2 j ⟨128 + l.val, by omega⟩)) s4
        else Attn.out (sc q K n i 320 64 (by omega) (by omega)) (fun j => V (ix2 j ⟨l.val, by omega⟩)) s5 :=
  two (scoreLo (prod' (k0_pay26 (k0_pay7 q)) (k0_pay28 K lanes)) (bias' n)) (scoreLo (prod' (k0_pay26 (k0_pay7 q)) (k0_pay36 K lanes)) (bias' n)) _ _ s4 s5 i l
    _ _ _ _ (sc4 q K n i) (sc5 q K n i) (fun j => pay28 V j l) (fun j => pay36 V j l)

theorem store3 (n : Fin 16) (s6 s7 : Ideal .f32) (i l : Fin 128) :
    k0_pay2 (k0_pay34 (k0_pay28 V lanes) s6 (k0_pay32 K (bias' n) lanes (k0_pay7 q) s6) (k0_pay33 K (bias' n) lanes (k0_pay7 q) s6))
        (k0_pay36 V lanes) (k0_pay39 K (bias' n) lanes (k0_pay26 (k0_pay7 q))) s7 (ix3 0 i l)
      = if l.val < 64 then Attn.out (sc q K n i 384 128 (by omega) (by omega)) (fun j => V (ix2 j ⟨128 + l.val, by omega⟩)) s6
        else Attn.out (sc q K n i 448 64 (by omega) (by omega)) (fun j => V (ix2 j ⟨l.val, by omega⟩)) s7 :=
  two (scoreHi (prod' (k0_pay26 (k0_pay7 q)) (k0_pay28 K lanes)) (bias' n)) (scoreHi (prod' (k0_pay26 (k0_pay7 q)) (k0_pay36 K lanes)) (bias' n)) _ _ s6 s7 i l
    _ _ _ _ (sc6 q K n i) (sc7 q K n i) (fun j => pay28 V j l) (fun j => pay36 V j l)

end Cert.AttnIdeal.Value
-- ==== Proof.AttnPre.lean ====
/-
  What the precondition `as_projected` says of the attention call's arguments, entry by entry.
-/
module

public import proofs.«01_k».proof.Pre_as_projected
public import Idealize.ShloMosaic.Lib.Pipeline.ValueKit
public import Idealize.ShloMosaic.Lib.Pointwise

@[expose] public section

set_option maxRecDepth 16384

noncomputable section

open Idealize.ShloMosaic

namespace Cert.Pre_as_projected

/-- The shape relations of the precondition's operations. -/
theorem facts : Facts where
  bitsLt_bf16_f32 := by decide
  bcast_S_S8x2304x512 := by decide
  bcast_S_S8 := by decide
  bcast_S8_S8x1x1_0 := by decide
  bcast_S8x1x1_S8x2304x512_0_1_2 := by decide
  bcast_S_S8x2304x256 := by decide
  slices_S8x2304x256_S8x2304x128_0_0_0 := by decide
  slices_S8x2304x256_S8x2304x64_0_0_64 := by decide
  slices_S8x2304x256_S8x2304x64_0_0_0 := by decide
  concatenates_S8x2304x128_S8x2304x64_S8x2304x64_S8x2304x256_d2 := by decide
  concatenates_S8x2304x512_S8x2304x256_S8x2304x768_d2 := by decide

theorem inf : (Ideal.ofBits .f32 0x7F800000#32 : EReal) = ⊤ := by simp [Ideal.ofBits, Ideal.ieee]

theorem both (a b : BitVec 1) (h : IntOp.andi a b = 1#1) : a = 1#1 ∧ b = 1#1 := by
  revert a b
  decide

theorem real (x : EReal) (h : BitVec.ofBool (decide (max x (-x) < ⊤)) = 1#1) : x ≠ ⊤ ∧ x ≠ ⊥ := by
  refine ⟨?_, ?_⟩ <;> rintro rfl <;> revert h <;> simp

theorem same (x y : EReal) (h : BitVec.ofBool (decide (x = y)) = 1#1) : x = y := by
  by_contra g
  revert h
  simp [g]

/-- The arguments as the projection leaves them: queries, keys and sinks are numbers, and the upper 128 lanes of the
    keys and of the values hold the two heads in the other order. -/
structure Projected (x0 : FVec Ideal S8x2304x512 .bf16) (x1 x2 : FVec Ideal S8x2304x256 .bf16) (x3 : FVec Ideal S8 .f32) : Prop where
  q : ∀ b l k, x0 (ix3 b l k) ≠ ⊤ ∧ x0 (ix3 b l k) ≠ ⊥
  k : ∀ b l k, x1 (ix3 b l k) ≠ ⊤ ∧ x1 (ix3 b l k) ≠ ⊥
  sink : ∀ h, x3 (ix1 h) ≠ ⊤ ∧ x3 (ix1 h) ≠ ⊥
  k1 : ∀ b l (d : Fin 64), x1 (ix3 b l ⟨128 + d.val, by omega⟩) = x1 (ix3 b l ⟨64 + d.val, by omega⟩)
  k2 : ∀ b l (d : Fin 64), x1 (ix3 b l ⟨192 + d.val, by omega⟩) = x1 (ix3 b l ⟨d.val, by omega⟩)
  v1 : ∀ b l (d : Fin 64), x2 (ix3 b l ⟨128 + d.val, by omega⟩) = x2 (ix3 b l ⟨64 + d.val, by omega⟩)
  v2 : ∀ b l (d : Fin 64), x2 (ix3 b l ⟨192 + d.val, by omega⟩) = x2 (ix3 b l ⟨d.val, by omega⟩)

variable [Facts]
variable (x0 : FVec Ideal S8x2304x512 .bf16) (x1 x2 : FVec Ideal S8x2304x256 .bf16) (x3 : FVec Ideal S8 .f32)

theorem left (h : fn (F := Ideal) x0 x1 x2 x3 = fun _ => 1#1) (b : Fin 8) (l : Fin 2304) (k : Fin 512) :
    (x0 (ix3 b l k) ≠ ⊤ ∧ x0 (ix3 b l k) ≠ ⊥) ∧ (x3 (ix1 b) ≠ ⊤ ∧ x3 (ix1 b) ≠ ⊥) := by
  have h' := congrFun h (ix3 b l (⟨k.val, by omega⟩ : Fin 768))
  revert h'
  unfold fn fn_part1
  pointwise [inf]
  intro h'
  obtain ⟨a, a'⟩ := both _ _ h'
  exact ⟨real _ a, real _ a'⟩

/-- The value of one of the three parts the lane falls in. -/
def other (x : FVec Ideal S8x2304x256 .bf16) (b : Fin 8) (l : Fin 2304) (k : Fin 256) : EReal :=
  if h : k.val < 128 then x (ix3 b l k)
  else if h : k.val - 128 < 64 then x (ix3 b l ⟨64 + (k.val - 128), by omega⟩) else x (ix3 b l ⟨k.val - 128 - 64, by omega⟩)

theorem right (h : fn (F := Ideal) x0 x1 x2 x3 = fun _ => 1#1) (b : Fin 8) (l : Fin 2304) (k : Fin 256) :
    (x1 (ix3 b l k) ≠ ⊤ ∧ x1 (ix3 b l k) ≠ ⊥) ∧ x1 (ix3 b l k) = other x1 b l k ∧ x2 (ix3 b l k) = other x2 b l k := by
  have h' := congrFun h (ix3 b l (⟨512 + k.val, by omega⟩ : Fin 768))
  revert h'
  unfold fn fn_part1
  pointwise [inf]
  intro h'
  obtain ⟨a, a'⟩ := both _ _ h'
  obtain ⟨e, e'⟩ := both _ _ a
  exact ⟨real _ e, same _ _ e', same _ _ a'⟩

theorem other1 (x : FVec Ideal S8x2304x256 .bf16) (b : Fin 8) (l : Fin 2304) (d : Fin 64) :
    other x b l ⟨128 + d.val, by omega⟩ = x (ix3 b l ⟨64 + d.val, by omega⟩) := by
  unfold other
  rw [dif_neg (by show ¬ 128 + d.val < 128; omega), dif_pos (by show 128 + d.val - 128 < 64; omega)]
  exact congrArg x (congrArg (ix3 b l) (Fin.ext (by show 64 + (128 + d.val - 128) = 64 + d.val; omega)))

theorem other2 (x : FVec Ideal S8x2304x256 .bf16) (b : Fin 8) (l : Fin 2304) (d : Fin 64) :
    other x b l ⟨192 + d.val, by omega⟩ = x (ix3 b l ⟨d.val, by omega⟩) := by
  unfold other
  rw [dif_neg (by show ¬ 192 + d.val < 128; omega), dif_neg (by show ¬ 192 + d.val - 128 < 64; omega)]
  exact congrArg x (congrArg (ix3 b l) (Fin.ext (by show 192 + d.val - 128 - 64 = d.val; omega)))

/-- The precondition, decoded. -/
theorem projected (h : fn (F := Ideal) x0 x1 x2 x3 = fun _ => 1#1) : Projected x0 x1 x2 x3 where
  q b l k := (left x0 x1 x2 x3 h b l k).1
  k b l k := (right x0 x1 x2 x3 h b l k).1
  sink b := (left x0 x1 x2 x3 h b 0 0).2
  k1 b l d := (right x0 x1 x2 x3 h b l _).2.1.trans (other1 x1 b l d)
  k2 b l d := (right x0 x1 x2 x3 h b l _).2.1.trans (other2 x1 b l d)
  v1 b l d := (right x0 x1 x2 x3 h b l _).2.2.trans (other1 x2 b l d)
  v2 b l d := (right x0 x1 x2 x3 h b l _).2.2.trans (other2 x2 b l d)

end Cert.Pre_as_projected
-- ==== Proof.AttnRef.lean ====
/-
  What the attention reference computes, entry by entry.
-/
module

public import proofs.«01_k».proof.Proof.Gen.AttnRefIdeal.Read
public import proofs.«01_k».proof.Proof.AttnSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnRefIdeal.Value

open Cert.AttnRefIdeal Cert.AttnRefIdeal.Gen
open Cert.AttnRefIdeal.Read

variable (x0 : FVec Ideal S8x2304x512 .bf16) (x1 x2 : FVec Ideal S8x2304x256 .bf16) (x3 : FVec Ideal S8 .f32)

/-- Entry `d` of the key or value head that query head `h` reads, at token `l`. -/
def kv (x : FVec Ideal S8x2304x256 .bf16) (b : Fin 8) (l : Fin 2304) (h : Fin 8) (d : Fin 64) : EReal :=
  x (ix3 b l ⟨h.val / 4 * 64 + d.val, by omega⟩)

/-- Entry `d` of query head `h` at token `i` of block `n`. -/
def qry (b : Fin 8) (n : Fin 16) (i : Fin 128) (h : Fin 8) (d : Fin 64) : EReal :=
  x0 (ix3 b ⟨256 + (n.val * 128 + i.val), by omega⟩ ⟨h.val * 64 + d.val, by omega⟩)

/-- The token that key `j` of block `n` is, if it is one: the three blocks around it, then the 256 of the context. -/
def key (n : Fin 16) (j : Fin 640) : Fin 2304 := ⟨if j.val < 384 then (n.val * 128 + j.val + 128) % 2304 else j.val - 384, by split <;> omega⟩

/-- The masked score of key `j` for query `i` of block `n` in head `h`. -/
def score (b : Fin 8) (n : Fin 16) (i : Fin 128) (h : Fin 8) (j : Fin 640) : EReal :=
  if j.val < 384 → Attn.valid n i j then ∑ d : Fin 64, qry x0 b n i h d * kv x1 b (key n j) h d else ⊥

theorem v8 (b : Fin 8) (l : Fin 2304) (h : Fin 8) (d : Fin 64) :
    val_main_v8 (F := Ideal) x1 (ix4 b l h d) = kv x1 b l h d := by
  unfold kv
  pointwise [val_main_v8, val_main_v7, val_main_v6, val_main_v3, val_main_v2]

theorem v11 (b : Fin 8) (l : Fin 2304) (h : Fin 8) (d : Fin 64) :
    val_main_v11 (F := Ideal) x2 (ix4 b l h d) = kv x2 b l h d := by
  unfold kv
  pointwise [val_main_v11, val_main_v10, val_main_v9, val_main_v5, val_main_v4]

theorem v16 (b : Fin 8) (n : Fin 16) (i : Fin 128) (h : Fin 8) (d : Fin 64) :
    val_main_v16 (F := Ideal) x0 (ix5 b n i h d) = qry x0 b n i h d := by
  unfold qry
  pointwise [val_main_v16, val_main_v1, val_main_v0]

theorem zero_word : (FloatOps.sitofp .f32 (0#32 : BitVec 32) : Ideal .f32) = 0 := by
  show (((0#32 : BitVec 32).toInt : ℝ) : EReal) = 0
  simp

/-- The keys or values of a block's neighbourhood, zero outside the sequence. -/
def band (x : FVec Ideal S8x2304x256 .bf16) (b : Fin 8) (p : ℕ) (h : Fin 8) (d : Fin 64) : EReal :=
  if g : 128 ≤ p ∧ p < 2176 then kv x b ⟨p + 128, by omega⟩ h d else 0

theorem v18 (b : Fin 8) (n : Fin 18) (j : Fin 128) (h : Fin 8) (d : Fin 64) :
    val_main_v18 (F := Ideal) x1 (ix5 b n j h d) = band x1 b (n.val * 128 + j.val) h d := by
  unfold band
  pointwise [val_main_v18, val_main_v17, val_main_v14, val_main_call0_v0, val_main_c]
  by_cases g : 128 ≤ n.val * 128 + j.val ∧ n.val * 128 + j.val < 2176
  · rw [dif_pos (by omega), dif_pos g, v8]
    exact congrArg (fun l => kv x1 b l h d) (Fin.ext (by show 256 + (n.val * 128 + j.val - 128) = n.val * 128 + j.val + 128; omega))
  · rw [dif_neg (by omega), dif_neg g]
    exact zero_word

theorem v24 (b : Fin 8) (n : Fin 18) (j : Fin 128) (h : Fin 8) (d : Fin 64) :
    val_main_v24 (F := Ideal) x2 (ix5 b n j h d) = band x2 b (n.val * 128 + j.val) h d := by
  unfold band
  pointwise [val_main_v24, val_main_v23, val_main_v15, val_main_call1_v0, val_main_c_0]
  by_cases g : 128 ≤ n.val * 128 + j.val ∧ n.val * 128 + j.val < 2176
  · rw [dif_pos (by omega), dif_pos g, v11]
    exact congrArg (fun l => kv x2 b l h d) (Fin.ext (by show 256 + (n.val * 128 + j.val - 128) = n.val * 128 + j.val + 128; omega))
  · rw [dif_neg (by omega), dif_neg g]
    exact zero_word

theorem v22 (b : Fin 8) (n : Fin 16) (j : Fin 384) (h : Fin 8) (d : Fin 64) :
    val_main_v22 (F := Ideal) x1 (ix5 b n j h d) = band x1 b (n.val * 128 + j.val) h d := by
  pointwise [val_main_v22, val_main_v21, val_main_v20, val_main_v19, v18]
  by_cases g : j.val < 128
  · rw [dif_pos g]
  · rw [dif_neg g]
    by_cases g' : j.val - 128 < 128
    · rw [dif_pos g']
      exact congrArg (fun p => band x1 b p h d) (by omega)
    · rw [dif_neg g']
      exact congrArg (fun p => band x1 b p h d) (by omega)

theorem v28 (b : Fin 8) (n : Fin 16) (j : Fin 384) (h : Fin 8) (d : Fin 64) :
    val_main_v28 (F := Ideal) x2 (ix5 b n j h d) = band x2 b (n.val * 128 + j.val) h d := by
  pointwise [val_main_v28, val_main_v27, val_main_v26, val_main_v25, v24]
  by_cases g : j.val < 128
  · rw [dif_pos g]
  · rw [dif_neg g]
    by_cases g' : j.val - 128 < 128
    · rw [dif_pos g']
      exact congrArg (fun p => band x2 b p h d) (by omega)
    · rw [dif_neg g']
      exact congrArg (fun p => band x2 b p h d) (by omega)

/-- The mask. -/
theorem v61 (n : Fin 16) (i : Fin 128) (j : Fin 384) :
    val_main_v61 (F := Ideal) (ix3 n i j) = if Attn.valid n i j then 1#1 else 0#1 := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30,
    val_main_c_1, val_main_c_2, val_main_c_3, val_main_c_4, val_main_c_5, val_main_c_6]
  have hn := n.isLt
  have hi := i.isLt
  have hj := j.isLt
  rw [show (128#32 : BitVec 32) = Attn.W 128 from rfl, show (0#32 : BitVec 32) = Attn.W 0 from rfl,
    show (2048#32 : BitVec 32) = Attn.W 2048 from rfl, Attn.W_nat, Attn.W_nat, Attn.W_nat]
  simp only [Attn.W_mul, Attn.W_add, Attn.W_sub]
  rw [Attn.W_abs _ (by omega), Attn.W_sle _ _ (by constructor <;> (rw [abs_eq_max_neg]; omega)) (by omega),
    Attn.W_sge _ _ (by omega) (by omega), Attn.W_slt _ _ (by omega) (by omega)]
  have e : Attn.valid n i j ↔ (|(n.val : ℤ) * 128 - 128 + j.val - (n.val * 128 + i.val)| ≤ 128
      ∧ (0 : ℤ) ≤ n.val * 128 - 128 + j.val ∧ (n.val : ℤ) * 128 - 128 + j.val < 2048) := by
    unfold Attn.valid
    rw [abs_le]
    omega
  simp only [e]
  by_cases h1 : |(n.val : ℤ) * 128 - 128 + j.val - (n.val * 128 + i.val)| ≤ 128 <;>
    by_cases h2 : (0 : ℤ) ≤ n.val * 128 - 128 + j.val <;> by_cases h3 : (n.val : ℤ) * 128 - 128 + j.val < 2048 <;>
    simp [h1, h2, h3, IntOp.andi]

end Cert.AttnRefIdeal.Value
-- ==== Proof.AttnRefVal.lean ====
/-
  The attention reference: its masked scores, their softmax with the sink, and its result.
-/
module

public import proofs.«01_k».proof.Proof.Gen.AttnRefIdeal.Read
public import proofs.«01_k».proof.Proof.AttnRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnRefIdeal.Value

open Cert.AttnRefIdeal Cert.AttnRefIdeal.Gen
open Cert.AttnRefIdeal.Read

variable (x0 : FVec Ideal S8x2304x512 .bf16) (x1 x2 : FVec Ideal S8x2304x256 .bf16) (x3 : FVec Ideal S8 .f32)

theorem neg_inf : (Ideal.ofBits .f32 0xFF800000#32 : EReal) = ⊥ := by simp [Ideal.ofBits, Ideal.ieee]

/-- Inside the sequence a block's neighbourhood is the token `key` says. -/
theorem band_key (x : FVec Ideal S8x2304x256 .bf16) (b : Fin 8) (n : Fin 16) (i : Fin 128) (j : Fin 384) (h : Fin 8) (d : Fin 64)
    (g : Attn.valid n i j) : band x b (n.val * 128 + j.val) h d = kv x b (key n ⟨j.val, by omega⟩) h d := by
  unfold Attn.valid at g
  unfold band
  rw [dif_pos ⟨g.2.2.1, g.2.2.2⟩]
  refine congrArg (fun l => kv x b l h d) (Fin.ext ?_)
  show n.val * 128 + j.val + 128 = if j.val < 384 then (n.val * 128 + j.val + 128) % 2304 else j.val - 384
  rw [if_pos j.isLt]
  omega

/-- The masked scores of the three blocks. -/
theorem v63 (b : Fin 8) (n : Fin 16) (h : Fin 8) (i : Fin 128) (j : Fin 384) :
    val_main_v63 (F := Ideal) x0 x1 (ix5 b n h i j) = score x0 x1 b n i h ⟨j.val, by omega⟩ := by
  pointwise [val_main_v63, val_main_call2_v2, val_main_call2_v1, val_main_call2_v0, val_main_cst, val_main_v62, v61, val_main_v29, v16, v22]
  unfold score
  by_cases g : Attn.valid n i j
  · rw [if_pos g, if_pos fun _ => g]
    show ∑ d, qry x0 b n i h d * band x1 b (n.val * 128 + j.val) h d = _
    exact Finset.sum_congr rfl fun d _ => congrArg (qry x0 b n i h d * ·) (band_key x1 b n i j h d g)
  · rw [if_neg g, if_neg fun c => g (c j.isLt)]
    exact neg_inf

/-- The scores of the context. -/
theorem v65 (b : Fin 8) (n : Fin 16) (h : Fin 8) (i : Fin 128) (j : Fin 256) :
    val_main_v65 (F := Ideal) x0 x1 (ix5 b n h i j) = score x0 x1 b n i h ⟨384 + j.val, by omega⟩ := by
  pointwise [val_main_v65, val_main_v64, val_main_v12, v16, v8]
  unfold score
  rw [if_pos fun c => absurd c (by show ¬ (384 + j.val < 384); omega)]
  refine Finset.sum_congr rfl fun d _ => (mul_comm _ _).trans (congrArg (_ * ·) (congrArg (fun l => kv x1 b l h d) (Fin.ext ?_)))
  show j.val = if 384 + j.val < 384 then _ else 384 + j.val - 384
  rw [if_neg (by omega)]
  omega

theorem v68 (b : Fin 8) (n : Fin 16) (h : Fin 8) (i : Fin 128) (j : Fin 641) :
    val_main_v68 (F := Ideal) x0 x1 x3 (ix5 b n h i j) = Attn.withSink (score x0 x1 b n i h) (x3 (ix1 h)) j := by
  pointwise [val_main_v68, val_main_v67, val_main_v66, v63, v65]
  unfold Attn.withSink
  by_cases g : j.val < 384
  · rw [dif_pos g, dif_pos (by omega)]
  · rw [dif_neg g]
    by_cases g' : j.val - 384 < 256
    · rw [dif_pos g', dif_pos (by omega)]
      exact congrArg _ (Fin.ext (by show 384 + (j.val - 384) = j.val; omega))
    · rw [dif_neg g', dif_neg (by omega)]

theorem fold_max (y : FVec Ideal S8x16x8x128x641 .f32) (b : Fin 8) (n : Fin 16) (h : Fin 8) (i : Fin 128) :
    Host.reduce FloatOps.maximumf y (val_main_cst_7 (F := Ideal)) reducesTo_S8x16x8x128x641_S8x16x8x128_d4 h_S_ (ix4 b n h i)
      = Finset.univ.fold max ⊥ fun k : Fin 641 => y (ix5 b n h i k) := by
  pointwise []
  exact congrArg (fun e => Finset.univ.fold max e _) neg_inf

theorem v71 (b : Fin 8) (n : Fin 16) (h : Fin 8) (i : Fin 128) :
    val_main_v71 (F := Ideal) x0 x1 x3 (ix4 b n h i) = Attn.peak (score x0 x1 b n i h) (x3 (ix1 h)) := by
  rw [val_main_v71_apply, val_main_v70_apply, val_main_cst_8_apply]
  refine (congrArg₂ max neg_inf (?_ : _ = Attn.peak (score x0 x1 b n i h) (x3 (ix1 h)))).trans (max_eq_right bot_le)
  rw [← Attn.fold_withSink]
  unfold val_main_v69
  rw [fold_max]
  exact congrArg (Finset.univ.fold max ⊥) (funext fun k => v68 x0 x1 x3 b n h i k)

/-- A score's exponential, less the row's largest. -/
theorem v75 (b : Fin 8) (n : Fin 16) (h : Fin 8) (i : Fin 128) (j : Fin 641) :
    val_main_v75 (F := Ideal) x0 x1 x3 (ix5 b n h i j) =
      Ideal.exp (Attn.withSink (score x0 x1 b n i h) (x3 (ix1 h)) j - Attn.peak (score x0 x1 b n i h) (x3 (ix1 h))) := by
  rw [val_main_v75_apply, val_main_v74_apply, v68, val_main_v73_apply, val_main_v72_apply]
  refine congrArg (fun p => Ideal.exp (Attn.withSink (score x0 x1 b n i h) (x3 (ix1 h)) j - p)) ?_
  refine (congrArg _ ?_).trans (v71 x0 x1 x3 b n h i)
  blk_ext []

theorem v76 (b : Fin 8) (n : Fin 16) (h : Fin 8) (i : Fin 128) :
    val_main_v76 (F := Ideal) x0 x1 x3 (ix4 b n h i) = Attn.norm (score x0 x1 b n i h) (x3 (ix1 h)) := by
  rw [val_main_v76_apply, ← Attn.sum_withSink]
  refine (congrArg₂ (· + ·) (?_ : _ = (0 : EReal)) (Finset.sum_congr rfl fun k _ => ?_)).trans (zero_add _)
  · rw [val_main_cst_9_apply]
    show Ideal.ofBits .f32 0#32 = 0
    simp [Ideal.ofBits, Ideal.ieee]
  · refine (congrArg _ ?_).trans (v75 x0 x1 x3 b n h i k)
    blk_ext []

theorem v79 (b : Fin 8) (n : Fin 16) (h : Fin 8) (i : Fin 128) (j : Fin 641) :
    val_main_v79 (F := Ideal) x0 x1 x3 (ix5 b n h i j) = Ideal.div
      (Ideal.exp (Attn.withSink (score x0 x1 b n i h) (x3 (ix1 h)) j - Attn.peak (score x0 x1 b n i h) (x3 (ix1 h))))
      (Attn.norm (score x0 x1 b n i h) (x3 (ix1 h))) := by
  pointwise [val_main_v79, val_main_v78, val_main_v77, v76, v75]

/-- The part of a token's result from the three blocks around it. -/
theorem v82 (b : Fin 8) (n : Fin 16) (h : Fin 8) (d : Fin 64) (i : Fin 128) :
    val_main_v82 (F := Ideal) x0 x1 x2 x3 (ix5 b n h d i) = ∑ j : Fin 384, band x2 b (n.val * 128 + j.val) h d *
      Ideal.div (Attn.weight (score x0 x1 b n i h) (x3 (ix1 h)) ⟨j.val, by omega⟩) (Attn.norm (score x0 x1 b n i h) (x3 (ix1 h))) := by
  rw [val_main_v82_apply]
  refine Finset.sum_congr rfl fun j _ => congrArg₂ (· * ·) ?_ ?_
  · refine (congrArg _ ?_).trans (v28 x2 b n j h d)
    blk_ext []
  · rw [val_main_v80_apply]
    refine (congrArg _ (?_ : _ = ix5 b n h i ⟨j.val, by omega⟩)).trans ((v79 x0 x1 x3 b n h i _).trans ?_)
    · blk_ext []
    · unfold Attn.weight Attn.withSink
      rw [dif_pos (by show j.val < 640; omega)]

/-- The part from the context. -/
theorem v84 (b : Fin 8) (n : Fin 16) (h : Fin 8) (d : Fin 64) (i : Fin 128) :
    val_main_v84 (F := Ideal) x0 x1 x2 x3 (ix5 b h d n i) = ∑ j : Fin 256, kv x2 b (key n ⟨384 + j.val, by omega⟩) h d *
      Ideal.div (Attn.weight (score x0 x1 b n i h) (x3 (ix1 h)) ⟨384 + j.val, by omega⟩) (Attn.norm (score x0 x1 b n i h) (x3 (ix1 h))) := by
  rw [val_main_v84_apply]
  refine Finset.sum_congr rfl fun j _ => congrArg₂ (· * ·) ?_ ?_
  · pointwise [val_main_v13, v11]
    refine congrArg (fun l => kv x2 b l h d) (Fin.ext ?_)
    show j.val = if 384 + j.val < 384 then _ else 384 + j.val - 384
    rw [if_neg (by omega)]
    omega
  · rw [val_main_v81_apply]
    refine (congrArg _ (?_ : _ = ix5 b n h i ⟨384 + j.val, by omega⟩)).trans ((v79 x0 x1 x3 b n h i _).trans ?_)
    · blk_ext []
    · unfold Attn.weight Attn.withSink
      rw [dif_pos (by show 384 + j.val < 640; omega)]

/-- An invalid key has weight zero. -/
theorem weight_invalid (b : Fin 8) (n : Fin 16) (i : Fin 128) (h : Fin 8) (j : Fin 640) (sk : EReal)
    (g : ¬ (j.val < 384 → Attn.valid n i j)) : Attn.weight (score x0 x1 b n i h) sk j = 0 := by
  unfold Attn.weight score
  rw [if_neg g, EReal.bot_sub]
  rfl

/-- The two parts together, where no score is `⊤` and the sink is a real number. -/
theorem sum_parts (b : Fin 8) (n : Fin 16) (i : Fin 128) (h : Fin 8) (d : Fin 64)
    (hs : ∀ j, score x0 x1 b n i h j ≠ ⊤) (hk : x3 (ix1 h) ≠ ⊤) (hk' : x3 (ix1 h) ≠ ⊥) :
    val_main_v82 (F := Ideal) x0 x1 x2 x3 (ix5 b n h d i) + val_main_v84 (F := Ideal) x0 x1 x2 x3 (ix5 b h d n i)
      = Attn.out (score x0 x1 b n i h) (fun j => kv x2 b (key n j) h d) (x3 (ix1 h)) := by
  rw [v82, v84, ← Attn.out_eq _ _ _ hs hk hk']
  refine Eq.trans ?_ (Fin.sum_univ_add (a := 384) (b := 256) _).symm
  refine congrArg₂ (· + ·) (Finset.sum_congr rfl fun j _ => ?_) (Finset.sum_congr rfl fun j _ => mul_comm _ _)
  by_cases g : Attn.valid n i j
  · rw [band_key x2 b n i j h d g]
    exact mul_comm _ _
  · show _ * Ideal.div (Attn.weight (score x0 x1 b n i h) (x3 (ix1 h)) ⟨j.val, _⟩) _ = Ideal.div (Attn.weight (score x0 x1 b n i h) (x3 (ix1 h)) ⟨j.val, _⟩) _ * _
    obtain ⟨e, he, hn⟩ := Attn.norm_real _ _ hs hk hk'
    rw [weight_invalid x0 x1 b n i h _ _ fun c => g (c j.isLt), hn]
    unfold Ideal.div
    rw [if_neg (by exact_mod_cast he.ne'), zero_mul, zero_mul, mul_zero]

/-- The reference's result. -/
theorem v88 (b : Fin 8) (n : Fin 16) (i : Fin 128) (h : Fin 8) (d : Fin 64)
    (hs : ∀ j, score x0 x1 b n i h j ≠ ⊤) (hk : x3 (ix1 h) ≠ ⊤) (hk' : x3 (ix1 h) ≠ ⊥) :
    val_main_v88 (F := Ideal) x0 x1 x2 x3 (ix3 b ⟨n.val * 128 + i.val, by omega⟩ ⟨h.val * 64 + d.val, by omega⟩)
      = Attn.out (score x0 x1 b n i h) (fun j => kv x2 b (key n j) h d) (x3 (ix1 h)) := by
  rw [← sum_parts x0 x1 x2 x3 b n i h d hs hk hk']
  pointwise [val_main_v88, val_main_v87, val_main_v86, val_main_v85, val_main_v83]

end Cert.AttnRefIdeal.Value
-- ==== Proof.AttnLink.lean ====
/-
  One head of the attention body, at the blocks its call loads, is the reference's head.
-/
module

public import proofs.«01_k».proof.Proof.AttnHeads
public import proofs.«01_k».proof.Proof.AttnPre
public import proofs.«01_k».proof.Proof.AttnRefVal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen
open Cert.AttnRefIdeal.Value (kv qry key score)
open Cert.AttnRefIdeal.Read
open Cert.Pre_as_projected (Projected)

/-- A key whose score is `⊥` has no weight, so its value does not matter. -/
theorem out_congr (s s' v v' : Fin 640 → EReal) (sk : EReal) (hs : s = s') (hv : ∀ j, s' j ≠ ⊥ → v j = v' j) :
    Attn.out s v sk = Attn.out s' v' sk := by
  subst hs
  unfold Attn.out
  refine congrArg (· * _) (Finset.sum_congr rfl fun j _ => ?_)
  by_cases g : s j = ⊥
  · have : Attn.weight s sk j = 0 := by
      unfold Attn.weight
      rw [g, EReal.bot_sub]
      rfl
    rw [this, zero_mul, zero_mul]
  · rw [hv j g]

section Pure
variable (x0 : FVec Ideal S8x2304x512 .bf16) (x1 x2 : FVec Ideal S8x2304x256 .bf16) (x3 : FVec Ideal S8 .f32)

/-- A sum of products of numbers is a number. -/
theorem sum_real (f g : Fin 64 → EReal) (hf : ∀ d, f d ≠ ⊤ ∧ f d ≠ ⊥) (hg : ∀ d, g d ≠ ⊤ ∧ g d ≠ ⊥) : ∃ r : ℝ, ∑ d, f d * g d = r := by
  refine Finset.sum_induction _ (fun x : EReal => ∃ r : ℝ, x = r) ?_ ⟨0, rfl⟩ fun d _ => ?_
  · rintro _ _ ⟨r, rfl⟩ ⟨r', rfl⟩
    exact ⟨r + r', (EReal.coe_add _ _).symm⟩
  · refine ⟨(f d).toReal * (g d).toReal, ?_⟩
    rw [EReal.coe_mul, EReal.coe_toReal (hf d).1 (hf d).2, EReal.coe_toReal (hg d).1 (hg d).2]

theorem score_real (H : Projected x0 x1 x2 x3) (b : Fin 8) (n : Fin 16) (i : Fin 128) (h : Fin 8) (j : Fin 640) :
    score x0 x1 b n i h j ≠ ⊤ := by
  unfold score
  split
  · obtain ⟨r, hr⟩ := sum_real (fun d => qry x0 b n i h d) (fun d => kv x1 b (key n j) h d) (fun d => H.q _ _ _) (fun d => H.k _ _ _)
    rw [hr]
    exact EReal.coe_ne_top r
  · exact bot_ne_top

/-- Key `j` of block `n` is a token. -/
def isKey (n : Fin 16) (j : Fin 640) : Prop := j.val < 384 → 128 ≤ n.val * 128 + j.val ∧ n.val * 128 + j.val < 2176

theorem isKey_of (b : Fin 8) (n : Fin 16) (i : Fin 128) (h : Fin 8) (j : Fin 640) (g : score x0 x1 b n i h j ≠ ⊥) : isKey n j := by
  intro g'
  unfold score at g
  by_cases c : j.val < 384 → Attn.valid n i j
  · exact (c g').2.2
  · exact absurd (if_neg c) g

variable (q : FVec Ideal S1x128x512 .bf16) (K V : FVec Ideal S640x256 .bf16) (b : Fin 8) (n : Fin 16) (i : Fin 128)

theorem sc_eq (hq : ∀ k, q (ix3 0 i k) = x0 (ix3 b ⟨256 + (n.val * 128 + i.val), by omega⟩ k))
    (hK : ∀ j e, isKey n j → K (ix2 j e) = x1 (ix3 b (key n j) e)) (h : Fin 8) (a e : ℕ) (ha : a + 64 ≤ 512) (he : e + 64 ≤ 256)
    (hah : a = h.val * 64) (hx : ∀ l (d : Fin 64), x1 (ix3 b l ⟨e + d.val, by omega⟩) = kv x1 b l h d) :
    sc q K n i a e ha he = score x0 x1 b n i h := by
  funext j
  unfold sc score
  by_cases c : j.val < 384 → Attn.valid n i j
  · rw [if_pos c, if_pos c]
    refine Finset.sum_congr rfl fun d _ => ?_
    rw [hq, hK j _ fun g => (c g).2.2, hx]
    subst hah
    rfl
  · rw [if_neg c, if_neg c]

/-- A lane that holds entry `d` of the key or value head that query head `h` reads. -/
theorem lane (x : FVec Ideal S8x2304x256 .bf16)
    (g1 : ∀ b l (d : Fin 64), x (ix3 b l ⟨128 + d.val, by omega⟩) = x (ix3 b l ⟨64 + d.val, by omega⟩))
    (g2 : ∀ b l (d : Fin 64), x (ix3 b l ⟨192 + d.val, by omega⟩) = x (ix3 b l ⟨d.val, by omega⟩))
    (h : Fin 8) (d : Fin 64) (w : Fin 256)
    (hw : w.val = h.val / 4 * 64 + d.val ∨ (h.val < 4 ∧ w.val = 192 + d.val) ∨ (4 ≤ h.val ∧ w.val = 128 + d.val)) (l : Fin 2304) :
    x (ix3 b l w) = kv x b l h d := by
  unfold kv
  rcases hw with e | ⟨g, e⟩ | ⟨g, e⟩
  · exact congrArg (fun k => x (ix3 b l k)) (Fin.ext e)
  · refine (congrArg (fun k => x (ix3 b l k)) (Fin.ext e)).trans ((g2 b l d).trans (congrArg (fun k => x (ix3 b l k)) (Fin.ext ?_)))
    show d.val = h.val / 4 * 64 + d.val
    omega
  · refine (congrArg (fun k => x (ix3 b l k)) (Fin.ext e)).trans ((g1 b l d).trans (congrArg (fun k => x (ix3 b l k)) (Fin.ext ?_)))
    show 64 + d.val = h.val / 4 * 64 + d.val
    omega

/-- One head. -/
theorem head_eq (H : Projected x0 x1 x2 x3) (hq : ∀ k, q (ix3 0 i k) = x0 (ix3 b ⟨256 + (n.val * 128 + i.val), by omega⟩ k))
    (hK : ∀ j e, isKey n j → K (ix2 j e) = x1 (ix3 b (key n j) e)) (hV : ∀ j e, isKey n j → V (ix2 j e) = x2 (ix3 b (key n j) e))
    (h : Fin 8) (d : Fin 64) (a e : ℕ) (ha : a + 64 ≤ 512) (he : e + 64 ≤ 256) (w : Fin 256) (sk : EReal) (o : Fin 512)
    (hah : a = h.val * 64) (hx : ∀ l (d : Fin 64), x1 (ix3 b l ⟨e + d.val, by omega⟩) = kv x1 b l h d)
    (hw : ∀ l, x2 (ix3 b l w) = kv x2 b l h d) (hsk : sk = x3 (ix1 h)) (ho : o.val = h.val * 64 + d.val) :
    Attn.out (sc q K n i a e ha he) (fun j => V (ix2 j w)) sk
      = val_main_v88 (F := Ideal) x0 x1 x2 x3 (ix3 b ⟨n.val * 128 + i.val, by omega⟩ o) := by
  have ho' : o = ⟨h.val * 64 + d.val, by omega⟩ := Fin.ext ho
  subst hsk
  rw [ho']
  rw [Cert.AttnRefIdeal.Value.v88 x0 x1 x2 x3 b n i h d (score_real x0 x1 x2 x3 H b n i h) (H.sink h).1 (H.sink h).2]
  refine out_congr _ _ _ _ _ (sc_eq x0 x1 q K b n i hq hK h a e ha he hah hx) fun j g => ?_
  rw [hV j w (isKey_of x0 x1 b n i h j g), hw]

/-- The keys or the values that a block's four parts hold. -/
theorem joined (x : FVec Ideal S8x2304x256 .bf16) (A B C : FVec Ideal S1x128x256 .bf16) (D : FVec Ideal S1x256x256 .bf16)
    (hA : ∀ j e, A (ix3 0 j e) = x (ix3 b ⟨(n.val - 1 + 2) * 128 + j.val, by omega⟩ e))
    (hB : ∀ j e, B (ix3 0 j e) = x (ix3 b ⟨(n.val + 2) * 128 + j.val, by omega⟩ e))
    (hC : ∀ j e, C (ix3 0 j e) = x (ix3 b ⟨(min (n.val + 1) 15 + 2) * 128 + j.val, by omega⟩ e))
    (hD : ∀ j e, D (ix3 0 j e) = x (ix3 b ⟨j.val, by omega⟩ e)) (j : Fin 640) (e : Fin 256) (g : isKey n j) :
    k0_pay3 A B C D (ix2 j e) = x (ix3 b (key n j) e) := by
  unfold isKey at g
  have hk : (key n j).val = if j.val < 384 then (n.val * 128 + j.val + 128) % 2304 else j.val - 384 := rfl
  rw [pay3]
  split
  · rw [hA]
    refine congrArg (fun l => x (ix3 b l e)) (Fin.ext ?_)
    rw [hk, if_pos (by omega)]
    show (n.val - 1 + 2) * 128 + j.val = _
    omega
  · split
    · rw [hB]
      refine congrArg (fun l => x (ix3 b l e)) (Fin.ext ?_)
      rw [hk, if_pos (by omega)]
      show (n.val + 2) * 128 + (j.val - 128) = _
      omega
    · split
      · rw [hC]
        refine congrArg (fun l => x (ix3 b l e)) (Fin.ext ?_)
        rw [hk, if_pos (by omega)]
        show (min (n.val + 1) 15 + 2) * 128 + (j.val - 128 - 128) = _
        omega
      · rw [hD]
        refine congrArg (fun l => x (ix3 b l e)) (Fin.ext ?_)
        rw [hk, if_neg (by omega)]
        show j.val - 128 - 128 - 128 = _
        omega

end Pure

end Cert.AttnIdeal.Value
-- ==== Proof.AttnVal.lean ====
/-
  The attention call writes the reference's result.
-/
module

public import proofs.«01_k».proof.Proof.Gen.AttnIdeal.Value
public import proofs.«01_k».proof.Proof.AttnLink
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

open Cert.AttnRefIdeal.Value (kv qry key score)
open Cert.AttnRefIdeal.Read
open Cert.Pre_as_projected (Projected)

variable (m : (ℓ : Loc nD τ sig) → Buf (Elt Ideal) ℓ)

theorem idx : ∀ t : Fin cfg0.N, win0_0.index t = ![0] ∧ win0_1.index t = ![t.val / 16, t.val % 16 + 2, 0]
    ∧ win0_2.index t = ![t.val / 16, t.val % 16 - 1 + 2, 0] ∧ win0_3.index t = ![t.val / 16, t.val % 16 + 2, 0]
    ∧ win0_4.index t = ![t.val / 16, min (t.val % 16 + 1) 15 + 2, 0] ∧ win0_5.index t = ![t.val / 16, 0, 0]
    ∧ win0_6.index t = ![t.val / 16, t.val % 16 - 1 + 2, 0] ∧ win0_7.index t = ![t.val / 16, t.val % 16 + 2, 0]
    ∧ win0_8.index t = ![t.val / 16, min (t.val % 16 + 1) 15 + 2, 0] ∧ win0_9.index t = ![t.val / 16, 0, 0]
    ∧ win0_10.index t = ![t.val / 16, t.val % 16, 0]
    ∧ (grid0.coords t 1).val = t.val % 16 :=
  (by decide +kernel : ∀ t : Fin grid0.N, _)

theorem t_lt (t : Fin cfg0.N) : t.val < 128 := lt_of_lt_of_eq t.isLt N_0

/-- The batch row of a grid point, and its block of queries. -/
def row (t : Fin cfg0.N) : Fin 8 := ⟨t.val / 16, by have := t_lt t; omega⟩
def blk (t : Fin cfg0.N) : Fin 16 := ⟨(grid0.coords t 1).val, by have := (idx t).2.2.2.2.2.2.2.2.2.2.2; omega⟩

section Blocks
variable (c : Dev nD) (t : Fin cfg0.N)

theorem blk0 (h : Fin 8) : (iblk m c 0 t : FVec Ideal S8 .f32) (ix1 h) = (m ((c : Thread nD τ).loc main_arg3) : FVec Ideal S8 .f32) (ix1 h) := by
  rw [← V_main_arg3 m c]
  blk_ext [iblk, idx t]
theorem blk1 (i : Fin 128) (k : Fin 512) : (iblk m c 1 t : FVec Ideal S1x128x512 .bf16) (ix3 0 i k)
    = (m ((c : Thread nD τ).loc main_arg0) : FVec Ideal S8x2304x512 .bf16) (ix3 (row t) ⟨256 + ((blk t).val * 128 + i.val), by omega⟩ k) := by
  rw [← V_main_arg0 m c]
  blk_ext [iblk, idx t, row, blk]
theorem blk2 (j : Fin 128) (k : Fin 256) : (iblk m c 2 t : FVec Ideal S1x128x256 .bf16) (ix3 0 j k)
    = (m ((c : Thread nD τ).loc main_arg1) : FVec Ideal S8x2304x256 .bf16) (ix3 (row t) ⟨((blk t).val - 1 + 2) * 128 + j.val, by omega⟩ k) := by
  rw [← V_main_arg1 m c]
  blk_ext [iblk, idx t, row, blk]
theorem blk3 (j : Fin 128) (k : Fin 256) : (iblk m c 3 t : FVec Ideal S1x128x256 .bf16) (ix3 0 j k)
    = (m ((c : Thread nD τ).loc main_arg1) : FVec Ideal S8x2304x256 .bf16) (ix3 (row t) ⟨((blk t).val + 2) * 128 + j.val, by omega⟩ k) := by
  rw [← V_main_arg1 m c]
  blk_ext [iblk, idx t, row, blk]
theorem blk4 (j : Fin 128) (k : Fin 256) : (iblk m c 4 t : FVec Ideal S1x128x256 .bf16) (ix3 0 j k)
    = (m ((c : Thread nD τ).loc main_arg1) : FVec Ideal S8x2304x256 .bf16) (ix3 (row t) ⟨(min ((blk t).val + 1) 15 + 2) * 128 + j.val, by omega⟩ k) := by
  rw [← V_main_arg1 m c]
  blk_ext [iblk, idx t, row, blk]
theorem blk5 (j : Fin 256) (k : Fin 256) : (iblk m c 5 t : FVec Ideal S1x256x256 .bf16) (ix3 0 j k)
    = (m ((c : Thread nD τ).loc main_arg1) : FVec Ideal S8x2304x256 .bf16) (ix3 (row t) ⟨j.val, by omega⟩ k) := by
  rw [← V_main_arg1 m c]
  blk_ext [iblk, idx t, row, blk]
theorem blk6 (j : Fin 128) (k : Fin 256) : (iblk m c 6 t : FVec Ideal S1x128x256 .bf16) (ix3 0 j k)
    = (m ((c : Thread nD τ).loc main_arg2) : FVec Ideal S8x2304x256 .bf16) (ix3 (row t) ⟨((blk t).val - 1 + 2) * 128 + j.val, by omega⟩ k) := by
  rw [← V_main_arg2 m c]
  blk_ext [iblk, idx t, row, blk]
theorem blk7 (j : Fin 128) (k : Fin 256) : (iblk m c 7 t : FVec Ideal S1x128x256 .bf16) (ix3 0 j k)
    = (m ((c : Thread nD τ).loc main_arg2) : FVec Ideal S8x2304x256 .bf16) (ix3 (row t) ⟨((blk t).val + 2) * 128 + j.val, by omega⟩ k) := by
  rw [← V_main_arg2 m c]
  blk_ext [iblk, idx t, row, blk]
theorem blk8 (j : Fin 128) (k : Fin 256) : (iblk m c 8 t : FVec Ideal S1x128x256 .bf16) (ix3 0 j k)
    = (m ((c : Thread nD τ).loc main_arg2) : FVec Ideal S8x2304x256 .bf16) (ix3 (row t) ⟨(min ((blk t).val + 1) 15 + 2) * 128 + j.val, by omega⟩ k) := by
  rw [← V_main_arg2 m c]
  blk_ext [iblk, idx t, row, blk]
theorem blk9 (j : Fin 256) (k : Fin 256) : (iblk m c 9 t : FVec Ideal S1x256x256 .bf16) (ix3 0 j k)
    = (m ((c : Thread nD τ).loc main_arg2) : FVec Ideal S8x2304x256 .bf16) (ix3 (row t) ⟨j.val, by omega⟩ k) := by
  rw [← V_main_arg2 m c]
  blk_ext [iblk, idx t, row, blk]
theorem emb10 (y : S1x128x512.Idx) :
    (((cfg0.win 10).blk t).view.emb y : S8x2048x512.Idx) = ix3 (row t) ⟨(blk t).val * 128 + (y 1).val, by have := (blk t).isLt; have := (y 1).isLt; simp at this; omega⟩ (y 2) := by
  blk_ext [idx t, row, blk]

end Blocks

theorem mem (off size : Fin S1x128x512.rank → ℕ) (inb) (y : S1x128x512.Idx) (h0 : off 0 ≤ y 0) (h1 : off 1 ≤ y 1) (h2 : off 2 ≤ y 2)
    (g0 : (y 0).val < off 0 + size 0) (g1 : (y 1).val < off 1 + size 1) (g2 : (y 2).val < off 2 + size 2) :
    y ∈ (Rect.unit (s := S1x128x512) off size inb).set := by
  rw [Rect.mem_set_unit]
  intro a
  refine Fin.cases ?_ (fun a => Fin.cases ?_ (fun a => Fin.cases ?_ (fun a => a.elim0) a) a) a
  · exact ⟨h0, g0⟩
  · exact ⟨h1, g1⟩
  · exact ⟨h2, g2⟩

/-- The four pieces cover the block. -/
theorem cover (i : Fin 128) (k : Fin 512)
    (A : (Rect.unit (s := S1x128x512) ![0, 0, 384] ![1, 128, 128] inb_S1x128x512_S1x128x128_0_0_384).shape.Idx → Elt Ideal .bf16)
    (B : (Rect.unit (s := S1x128x512) ![0, 0, 256] ![1, 128, 128] inb_S1x128x512_S1x128x128_0_0_256).shape.Idx → Elt Ideal .bf16)
    (C : (Rect.unit (s := S1x128x512) ![0, 0, 128] ![1, 128, 128] inb_S1x128x512_S1x128x128_0_0_128).shape.Idx → Elt Ideal .bf16)
    (D : (Rect.unit (s := S1x128x512) ![0, 0, 0] ![1, 128, 128] inb_S1x128x512_S1x128x128_0_0_0).shape.Idx → Elt Ideal .bf16) :
    ∃ p ∈ ([⟨_, A⟩, ⟨_, B⟩, ⟨_, C⟩, ⟨_, D⟩] : List (View.Piece (Elt Ideal) S1x128x512 .bf16)), ix3 0 i k ∈ p.1.set := by
  have hi := i.isLt
  have hk := k.isLt
  by_cases h : k.val < 128
  · exact ⟨⟨_, D⟩, by simp, mem _ _ inb_S1x128x512_S1x128x128_0_0_0 _ (Nat.zero_le _) (Nat.zero_le _) (Nat.zero_le _) (by show 0 < 0 + 1; omega) (by show i.val < 0 + 128; omega) (by show k.val < 0 + 128; omega)⟩
  by_cases h : k.val < 256
  · exact ⟨⟨_, C⟩, by simp, mem _ _ inb_S1x128x512_S1x128x128_0_0_128 _ (Nat.zero_le _) (Nat.zero_le _) (by show 128 ≤ k.val; omega) (by show 0 < 0 + 1; omega) (by show i.val < 0 + 128; omega) (by show k.val < 128 + 128; omega)⟩
  by_cases h : k.val < 384
  · exact ⟨⟨_, B⟩, by simp, mem _ _ inb_S1x128x512_S1x128x128_0_0_256 _ (Nat.zero_le _) (Nat.zero_le _) (by show 256 ≤ k.val; omega) (by show 0 < 0 + 1; omega) (by show i.val < 0 + 128; omega) (by show k.val < 256 + 128; omega)⟩
  · exact ⟨⟨_, A⟩, by simp, mem _ _ inb_S1x128x512_S1x128x128_0_0_384 _ (Nat.zero_le _) (Nat.zero_le _) (by show 384 ≤ k.val; omega) (by show 0 < 0 + 1; omega) (by show i.val < 0 + 128; omega) (by show k.val < 384 + 128; omega)⟩

/-- A block written in four pieces of 128 lanes has each piece's entries. -/
theorem four (i : Fin 128) (k : Fin 512) (f : Fin 512 → EReal)
    (A : (Rect.unit (s := S1x128x512) ![0, 0, 384] ![1, 128, 128] inb_S1x128x512_S1x128x128_0_0_384).shape.Idx → Elt Ideal .bf16)
    (B : (Rect.unit (s := S1x128x512) ![0, 0, 256] ![1, 128, 128] inb_S1x128x512_S1x128x128_0_0_256).shape.Idx → Elt Ideal .bf16)
    (C : (Rect.unit (s := S1x128x512) ![0, 0, 128] ![1, 128, 128] inb_S1x128x512_S1x128x128_0_0_128).shape.Idx → Elt Ideal .bf16)
    (D : (Rect.unit (s := S1x128x512) ![0, 0, 0] ![1, 128, 128] inb_S1x128x512_S1x128x128_0_0_0).shape.Idx → Elt Ideal .bf16)
    (L : List (View.Piece (Elt Ideal) S1x128x512 .bf16)) (hL : L = [⟨_, A⟩, ⟨_, B⟩, ⟨_, C⟩, ⟨_, D⟩])
    (hA : ∀ l : Fin 128, A (ix3 (0 : Fin 1) i l : S1x128x128.Idx) = f ⟨384 + l.val, by omega⟩)
    (hB : ∀ l : Fin 128, B (ix3 (0 : Fin 1) i l : S1x128x128.Idx) = f ⟨256 + l.val, by omega⟩)
    (hC : ∀ l : Fin 128, C (ix3 (0 : Fin 1) i l : S1x128x128.Idx) = f ⟨128 + l.val, by omega⟩)
    (hD : ∀ l : Fin 128, D (ix3 (0 : Fin 1) i l : S1x128x128.Idx) = f ⟨l.val, by omega⟩) :
    View.canon L (ix3 0 i k) = f k := by
  subst hL
  canon_tiles x e using cover i k A B C D
  · have hx : x = (ix3 (0 : Fin 1) i (x 2) : S1x128x128.Idx) := by
      funext a
      refine Fin.cases ?_ (fun a => Fin.cases ?_ (fun a => Fin.cases ?_ (fun a => a.elim0) a) a) a
      · exact Fin.ext e0.symm
      · exact Fin.ext e1.symm
      · rfl
    have ek : k.val = 384 + (x 2).val := e2
    refine (congrArg _ hx).trans ((hA _).trans (congrArg f (Fin.ext ek.symm)))
  · have hx : x = (ix3 (0 : Fin 1) i (x 2) : S1x128x128.Idx) := by
      funext a
      refine Fin.cases ?_ (fun a => Fin.cases ?_ (fun a => Fin.cases ?_ (fun a => a.elim0) a) a) a
      · exact Fin.ext e0.symm
      · exact Fin.ext e1.symm
      · rfl
    have ek : k.val = 256 + (x 2).val := e2
    refine (congrArg _ hx).trans ((hB _).trans (congrArg f (Fin.ext ek.symm)))
  · have hx : x = (ix3 (0 : Fin 1) i (x 2) : S1x128x128.Idx) := by
      funext a
      refine Fin.cases ?_ (fun a => Fin.cases ?_ (fun a => Fin.cases ?_ (fun a => a.elim0) a) a) a
      · exact Fin.ext e0.symm
      · exact Fin.ext e1.symm
      · rfl
    have ek : k.val = 128 + (x 2).val := e2
    refine (congrArg _ hx).trans ((hC _).trans (congrArg f (Fin.ext ek.symm)))
  · have hx : x = (ix3 (0 : Fin 1) i (x 2) : S1x128x128.Idx) := by
      funext a
      refine Fin.cases ?_ (fun a => Fin.cases ?_ (fun a => Fin.cases ?_ (fun a => a.elim0) a) a) a
      · exact Fin.ext e0.symm
      · exact Fin.ext e1.symm
      · rfl
    have ek : k.val = (x 2).val := e2
    refine (congrArg _ hx).trans ((hD _).trans (congrArg f (Fin.ext ek.symm)))

theorem sink (c : Dev nD) (t : Fin cfg0.N) (h : Fin 8) (inb) (hp) :
    View.ld (iblk m c 0 t) (Rect.unit (s := S8) ![h.val] ![1] inb) (Shape.Idx.first hp)
      = (m ((c : Thread nD τ).loc main_arg3) : FVec Ideal S8 .f32) (ix1 h) := by
  refine Eq.trans (congrArg (iblk m c 0 t) ?_) (blk0 m c t h)
  funext a
  refine Fin.cases ?_ (fun a => a.elim0) a
  exact Fin.ext (by show h.val + 1 * 0 = h.val; omega)

/-- Where the inputs are as the projection leaves them, the result is the reference's. -/
theorem final (c : Dev nD)
    (H : Projected (m ((c : Thread nD τ).loc main_arg0)) (m ((c : Thread nD τ).loc main_arg1)) (m ((c : Thread nD τ).loc main_arg2)) (m ((c : Thread nD τ).loc main_arg3))) :
    (dats m 0 c).arrAt 10 (cfgs 0).N = (val_main_v88 (F := Ideal) (m ((c : Thread nD τ).loc main_arg0))
      (m ((c : Thread nD τ).loc main_arg1)) (m ((c : Thread nD τ).loc main_arg2)) (m ((c : Thread nD τ).loc main_arg3)) : FVec Ideal S8x2048x512 .bf16) := by
  refine (dats m 0 c).arrAt_eq_of_covers 10 _ (by decide +kernel) fun t hf y => ?_
  blk_simp
  rw [after0_10]
  simp only [outsAt0]
  frame_out
  refine Eq.trans ?_ (congrArg _ (emb10 t y).symm)
  have hy : y = (ix3 0 (y 1) (y 2) : S1x128x512.Idx) := by blk_ext []
  refine (congrArg _ hy).trans ?_
  have hq : ∀ i k, (iblk m c 1 t : FVec Ideal S1x128x512 .bf16) (ix3 0 i k)
    = (m ((c : Thread nD τ).loc main_arg0) : FVec Ideal S8x2304x512 .bf16) (ix3 (row t) ⟨256 + ((blk t).val * 128 + i.val), by omega⟩ k) := blk1 m c t
  have hK := joined (row t) (blk t) (m ((c : Thread nD τ).loc main_arg1)) _ _ _ _ (blk2 m c t) (blk3 m c t) (blk4 m c t) (blk5 m c t)
  have hV := joined (row t) (blk t) (m ((c : Thread nD τ).loc main_arg2)) _ _ _ _ (blk6 m c t) (blk7 m c t) (blk8 m c t) (blk9 m c t)
  refine four (y 1) (y 2) (fun k => val_main_v88 (F := Ideal) (m ((c : Thread nD τ).loc main_arg0))
      (m ((c : Thread nD τ).loc main_arg1)) (m ((c : Thread nD τ).loc main_arg2)) (m ((c : Thread nD τ).loc main_arg3)) (ix3 (row t) ⟨(blk t).val * 128 + (y 1).val, by have := (blk t).isLt; have := (y 1).isLt; simp at this; omega⟩ k)) _ _ _ _ _ rfl ?_ ?_ ?_ ?_
  · intro l
    refine (store3 (iblk m c 1 t) (k0_pay3 (iblk m c 2 t) (iblk m c 3 t) (iblk m c 4 t) (iblk m c 5 t)) (k0_pay4 (iblk m c 6 t) (iblk m c 7 t) (iblk m c 8 t) (iblk m c 9 t))
      (blk t) _ _ (y 1) l).trans ?_
    by_cases g : l.val < 64
    · rw [if_pos g]
      exact head_eq _ _ _ _ _ _ _ (row t) (blk t) (y 1) H (hq (y 1)) hK hV 6 ⟨l.val, g⟩ 384 128 (by omega) (by omega) ⟨128 + l.val, by omega⟩ _ ⟨384 + l.val, by omega⟩
        rfl (fun p d => lane (row t) _ H.k1 H.k2 6 d _ (by show 128 + d.val = 6 / 4 * 64 + d.val ∨ (6 < 4 ∧ 128 + d.val = 192 + d.val) ∨ (4 ≤ 6 ∧ 128 + d.val = 128 + d.val); omega) p)
        (lane (row t) _ H.v1 H.v2 6 _ _ (by show 128 + l.val = 6 / 4 * 64 + l.val ∨ (6 < 4 ∧ 128 + l.val = 192 + l.val) ∨ (4 ≤ 6 ∧ 128 + l.val = 128 + l.val); omega))
        (sink m c t 6 _ _) (by show 384 + l.val = 6 * 64 + l.val; omega)
    · rw [if_neg g]
      exact head_eq _ _ _ _ _ _ _ (row t) (blk t) (y 1) H (hq (y 1)) hK hV 7 ⟨l.val - 64, by omega⟩ 448 64 (by omega) (by omega) ⟨l.val, by omega⟩ _ ⟨384 + l.val, by omega⟩
        rfl (fun p d => lane (row t) _ H.k1 H.k2 7 d _ (by show 64 + d.val = 7 / 4 * 64 + d.val ∨ (7 < 4 ∧ 64 + d.val = 192 + d.val) ∨ (4 ≤ 7 ∧ 64 + d.val = 128 + d.val); omega) p)
        (lane (row t) _ H.v1 H.v2 7 _ _ (by show l.val = 7 / 4 * 64 + (l.val - 64) ∨ (7 < 4 ∧ l.val = 192 + (l.val - 64)) ∨ (4 ≤ 7 ∧ l.val = 128 + (l.val - 64)); omega))
        (sink m c t 7 _ _) (by show 384 + l.val = 7 * 64 + (l.val - 64); omega)
  · intro l
    refine (store2 (iblk m c 1 t) (k0_pay3 (iblk m c 2 t) (iblk m c 3 t) (iblk m c 4 t) (iblk m c 5 t)) (k0_pay4 (iblk m c 6 t) (iblk m c 7 t) (iblk m c 8 t) (iblk m c 9 t))
      (blk t) _ _ (y 1) l).trans ?_
    by_cases g : l.val < 64
    · rw [if_pos g]
      exact head_eq _ _ _ _ _ _ _ (row t) (blk t) (y 1) H (hq (y 1)) hK hV 4 ⟨l.val, g⟩ 256 128 (by omega) (by omega) ⟨128 + l.val, by omega⟩ _ ⟨256 + l.val, by omega⟩
        rfl (fun p d => lane (row t) _ H.k1 H.k2 4 d _ (by show 128 + d.val = 4 / 4 * 64 + d.val ∨ (4 < 4 ∧ 128 + d.val = 192 + d.val) ∨ (4 ≤ 4 ∧ 128 + d.val = 128 + d.val); omega) p)
        (lane (row t) _ H.v1 H.v2 4 _ _ (by show 128 + l.val = 4 / 4 * 64 + l.val ∨ (4 < 4 ∧ 128 + l.val = 192 + l.val) ∨ (4 ≤ 4 ∧ 128 + l.val = 128 + l.val); omega))
        (sink m c t 4 _ _) (by show 256 + l.val = 4 * 64 + l.val; omega)
    · rw [if_neg g]
      exact head_eq _ _ _ _ _ _ _ (row t) (blk t) (y 1) H (hq (y 1)) hK hV 5 ⟨l.val - 64, by omega⟩ 320 64 (by omega) (by omega) ⟨l.val, by omega⟩ _ ⟨256 + l.val, by omega⟩
        rfl (fun p d => lane (row t) _ H.k1 H.k2 5 d _ (by show 64 + d.val = 5 / 4 * 64 + d.val ∨ (5 < 4 ∧ 64 + d.val = 192 + d.val) ∨ (4 ≤ 5 ∧ 64 + d.val = 128 + d.val); omega) p)
        (lane (row t) _ H.v1 H.v2 5 _ _ (by show l.val = 5 / 4 * 64 + (l.val - 64) ∨ (5 < 4 ∧ l.val = 192 + (l.val - 64)) ∨ (4 ≤ 5 ∧ l.val = 128 + (l.val - 64)); omega))
        (sink m c t 5 _ _) (by show 256 + l.val = 5 * 64 + (l.val - 64); omega)
  · intro l
    refine (store1 (iblk m c 1 t) (k0_pay3 (iblk m c 2 t) (iblk m c 3 t) (iblk m c 4 t) (iblk m c 5 t)) (k0_pay4 (iblk m c 6 t) (iblk m c 7 t) (iblk m c 8 t) (iblk m c 9 t))
      (blk t) _ _ (y 1) l).trans ?_
    by_cases g : l.val < 64
    · rw [if_pos g]
      exact head_eq _ _ _ _ _ _ _ (row t) (blk t) (y 1) H (hq (y 1)) hK hV 2 ⟨l.val, g⟩ 128 0 (by omega) (by omega) ⟨l.val, by omega⟩ _ ⟨128 + l.val, by omega⟩
        rfl (fun p d => lane (row t) _ H.k1 H.k2 2 d _ (by show 0 + d.val = 2 / 4 * 64 + d.val ∨ (2 < 4 ∧ 0 + d.val = 192 + d.val) ∨ (4 ≤ 2 ∧ 0 + d.val = 128 + d.val); omega) p)
        (lane (row t) _ H.v1 H.v2 2 _ _ (by show l.val = 2 / 4 * 64 + l.val ∨ (2 < 4 ∧ l.val = 192 + l.val) ∨ (4 ≤ 2 ∧ l.val = 128 + l.val); omega))
        (sink m c t 2 _ _) (by show 128 + l.val = 2 * 64 + l.val; omega)
    · rw [if_neg g]
      exact head_eq _ _ _ _ _ _ _ (row t) (blk t) (y 1) H (hq (y 1)) hK hV 3 ⟨l.val - 64, by omega⟩ 192 192 (by omega) (by omega) ⟨128 + l.val, by omega⟩ _ ⟨128 + l.val, by omega⟩
        rfl (fun p d => lane (row t) _ H.k1 H.k2 3 d _ (by show 192 + d.val = 3 / 4 * 64 + d.val ∨ (3 < 4 ∧ 192 + d.val = 192 + d.val) ∨ (4 ≤ 3 ∧ 192 + d.val = 128 + d.val); omega) p)
        (lane (row t) _ H.v1 H.v2 3 _ _ (by show 128 + l.val = 3 / 4 * 64 + (l.val - 64) ∨ (3 < 4 ∧ 128 + l.val = 192 + (l.val - 64)) ∨ (4 ≤ 3 ∧ 128 + l.val = 128 + (l.val - 64)); omega))
        (sink m c t 3 _ _) (by show 128 + l.val = 3 * 64 + (l.val - 64); omega)
  · intro l
    refine (store0 (iblk m c 1 t) (k0_pay3 (iblk m c 2 t) (iblk m c 3 t) (iblk m c 4 t) (iblk m c 5 t)) (k0_pay4 (iblk m c 6 t) (iblk m c 7 t) (iblk m c 8 t) (iblk m c 9 t))
      (blk t) _ _ (y 1) l).trans ?_
    by_cases g : l.val < 64
    · rw [if_pos g]
      exact head_eq _ _ _ _ _ _ _ (row t) (blk t) (y 1) H (hq (y 1)) hK hV 0 ⟨l.val, g⟩ 0 0 (by omega) (by omega) ⟨l.val, by omega⟩ _ ⟨l.val, by omega⟩
        rfl (fun p d => lane (row t) _ H.k1 H.k2 0 d _ (by show 0 + d.val = 0 / 4 * 64 + d.val ∨ (0 < 4 ∧ 0 + d.val = 192 + d.val) ∨ (4 ≤ 0 ∧ 0 + d.val = 128 + d.val); omega) p)
        (lane (row t) _ H.v1 H.v2 0 _ _ (by show l.val = 0 / 4 * 64 + l.val ∨ (0 < 4 ∧ l.val = 192 + l.val) ∨ (4 ≤ 0 ∧ l.val = 128 + l.val); omega))
        (sink m c t 0 _ _) (by show l.val = 0 * 64 + l.val; omega)
    · rw [if_neg g]
      exact head_eq _ _ _ _ _ _ _ (row t) (blk t) (y 1) H (hq (y 1)) hK hV 1 ⟨l.val - 64, by omega⟩ 64 192 (by omega) (by omega) ⟨128 + l.val, by omega⟩ _ ⟨l.val, by omega⟩
        rfl (fun p d => lane (row t) _ H.k1 H.k2 1 d _ (by show 192 + d.val = 1 / 4 * 64 + d.val ∨ (1 < 4 ∧ 192 + d.val = 192 + d.val) ∨ (4 ≤ 1 ∧ 192 + d.val = 128 + d.val); omega) p)
        (lane (row t) _ H.v1 H.v2 1 _ _ (by show 128 + l.val = 1 / 4 * 64 + (l.val - 64) ∨ (1 < 4 ∧ 128 + l.val = 192 + (l.val - 64)) ∨ (4 ≤ 1 ∧ 128 + l.val = 128 + (l.val - 64)); omega))
        (sink m c t 1 _ _) (by show l.val = 1 * 64 + (l.val - 64); omega)

end Cert.AttnIdeal.Value
-- ==== Proof.lean ====
module

public import proofs.«01_k».proof.Defs
public import proofs.«01_k».proof.Proof.Gen.AttnIdeal.Value
public import proofs.«01_k».proof.Proof.Gen.FfnIdeal.Value
public import proofs.«01_k».proof.Proof.Gen.OutprojIdeal.Value
public import proofs.«01_k».proof.Proof.Gen.ModulIdeal.Value
public import proofs.«01_k».proof.Proof.Gen.InprojIdeal.Value
public import proofs.«01_k».proof.Proof.Gen.Attn.Frame
public import proofs.«01_k».proof.Proof.Gen.Ffn.Frame
public import proofs.«01_k».proof.Proof.Gen.Outproj.Frame
public import proofs.«01_k».proof.Proof.Gen.Modul.Frame
public import proofs.«01_k».proof.Proof.Gen.Inproj.Frame
public import proofs.«01_k».proof.Proof.Gen.AttnRefIdeal.Read
public import proofs.«01_k».proof.Proof.Gen.FfnRefIdeal.Read
public import proofs.«01_k».proof.Proof.Gen.OutRefIdeal.Read
public import proofs.«01_k».proof.Proof.Gen.ModRefIdeal.Read
public import proofs.«01_k».proof.Proof.Gen.InRefIdeal.Read
public import proofs.«01_k».proof.Proof.Gen.AttnIdeal.Frame
public import proofs.«01_k».proof.Proof.Gen.FfnIdeal.Frame
public import proofs.«01_k».proof.Proof.Gen.OutprojIdeal.Frame
public import proofs.«01_k».proof.Proof.Gen.ModulIdeal.Frame
public import proofs.«01_k».proof.Proof.Gen.InprojIdeal.Frame
public import proofs.«01_k».proof.Proof.Gen.AttnRefIdeal.Run
public import proofs.«01_k».proof.Proof.Gen.FfnRefIdeal.Run
public import proofs.«01_k».proof.Proof.Gen.OutRefIdeal.Run
public import proofs.«01_k».proof.Proof.Gen.ModRefIdeal.Run
public import proofs.«01_k».proof.Proof.Gen.InRefIdeal.Run
public import proofs.«01_k».proof.Proof.ModVal
public import proofs.«01_k».proof.Proof.OutVal
public import proofs.«01_k».proof.Proof.FfnVal
public import proofs.«01_k».proof.Proof.AttnVal

@[expose] public section

set_option maxRecDepth 16384

noncomputable section

open Idealize.ShloMosaic Idealize.ShloMosaic.TcCoe Idealize.SL.Sem

namespace Cert.Proof

/-- The reference `AttnRef` ends without fault, with its arguments and every counter as they should be. -/
theorem frame_AttnRef : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The reference `FfnRef` ends without fault, with its arguments and every counter as they should be. -/
theorem frame_FfnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference `OutRef` ends without fault, with its arguments and every counter as they should be. -/
theorem frame_OutRef : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

/-- The reference `ModRef` ends without fault, with its arguments and every counter as they should be. -/
theorem frame_ModRef : Cert.quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The reference `InRef` ends without fault, with its arguments and every counter as they should be. -/
theorem frame_InRef : Cert.quiescent_InRefIdeal := fun m ρ _ =>
  (θ_run Cert.InRefIdeal.defs _ _).mono (fun r h => ⟨fun c => (h c).2.2.2.2.2.2, sem_eq_zero_of_no_sems (by decide) r.2⟩)
    (Cert.InRefIdeal.Value.run (F := Ideal) m ρ)

/-- The input modulation's table is the reference's. -/
theorem algebraic_Modul : Cert.algebraic_ModulIdeal_ModRefIdeal := by
  pair_intro
  · run_from Cert.ModulIdeal.Gen.run_main m g
  · refine (θ_run Cert.ModRefIdeal.defs _ _).mono (fun r h c => ?_) (Cert.ModRefIdeal.Value.run (F := Ideal) m' g')
    obtain ⟨a0, a1, a2, a3⟩ := hagree c
    refine ⟨(h c).1.trans ?_, (h c).2⟩
    refine (Cert.ModRefIdeal.Read.val_main_v7_eq _ _ _ _).trans ?_
    rw [a0, a1, a2, a3]
    exact (Cert.ModulIdeal.Value.final m c).symm

/-- The output projection's two results are the reference's. -/
theorem algebraic_Outproj : Cert.algebraic_OutprojIdeal_OutRefIdeal := by
  pair_intro
  · run_from Cert.OutprojIdeal.Gen.run_main m g
  · refine (θ_run Cert.OutRefIdeal.defs _ _).mono (fun r h c => ?_) (Cert.OutRefIdeal.Value.run (F := Ideal) m' g')
    obtain ⟨a0, a1, a2, a3, a4, a5⟩ := hagree c
    refine ⟨(h c).1.trans ?_, (h c).2.1.trans ?_, (h c).2.2⟩
    · refine (Cert.OutRefIdeal.Read.val_main_v9_eq _ _ _ _ _).trans ?_
      rw [a0, a1, a2, a3, a4]
      exact (Cert.OutprojIdeal.Value.final6 m c).symm
    · refine (Cert.OutRefIdeal.Read.val_main_v29_eq _ _ _ _ _ _).trans ?_
      rw [a0, a1, a2, a3, a4, a5]
      exact (Cert.OutprojIdeal.Value.final7 m c).symm

/-- The feed-forward call's result is the reference's. -/
theorem algebraic_Ffn : Cert.algebraic_FfnIdeal_FfnRefIdeal := by
  pair_intro
  · run_from Cert.FfnIdeal.Gen.run_main m g
  · refine (θ_run Cert.FfnRefIdeal.defs _ _).mono (fun r h c => ?_) (Cert.FfnRefIdeal.Value.run (F := Ideal) m' g')
    obtain ⟨a0, a1, a2, a3, a4, a5, a6⟩ := hagree c
    refine ⟨(h c).1.trans ?_, (h c).2⟩
    refine (Cert.FfnRefIdeal.Read.val_main_v34_eq _ _).trans ?_
    rw [a0, a1, a2, a3, a4, a5, a6]
    exact (Cert.FfnIdeal.Value.final m c).symm

/-- The attention call's result is the reference's, where its arguments are as the projection leaves them. -/
theorem algebraic_Attn : Cert.algebraic_AttnIdeal_AttnRefIdeal_pre_as_projected (hPre_as_projected := Cert.Pre_as_projected.facts) := by
  pair_intro
  · run_from Cert.AttnIdeal.Gen.run_main m g
  · refine (θ_run Cert.AttnRefIdeal.defs _ _).mono (fun r h c => ?_) (Cert.AttnRefIdeal.Value.run (F := Ideal) m' g')
    obtain ⟨a0, a1, a2, a3⟩ := hagree c
    refine ⟨(h c).1.trans ?_, (h c).2⟩
    refine (Cert.AttnRefIdeal.Read.val_main_v88_eq _ _).trans ?_
    rw [a0, a1, a2, a3]
    exact (Cert.AttnIdeal.Value.final m c (@Cert.Pre_as_projected.projected Cert.Pre_as_projected.facts _ _ _ _ (hpre c))).symm

/-- Everything that is claimed. -/
theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.Outproj.Gen.facts, Cert.OutprojIdeal.Gen.facts, Cert.OutRefIdeal.Gen.facts, Cert.Modul.Gen.facts, Cert.ModulIdeal.Gen.facts, Cert.ModRefIdeal.Gen.facts, Cert.Inproj.Gen.facts, Cert.InprojIdeal.Gen.facts, Cert.InRefIdeal.Gen.facts, Cert.Pre_as_projected.facts,
   fun m ρ _ => Cert.Attn.Gen.frame m ρ, fun m ρ _ => Cert.AttnIdeal.Gen.frame m ρ, fun m ρ _ => Cert.AttnIdeal.Gen.frame m ρ, frame_AttnRef, fun m ρ _ => frame_AttnRef m ρ trivial, fun m ρ _ => Cert.Ffn.Gen.frame m ρ, fun m ρ _ => Cert.FfnIdeal.Gen.frame m ρ, frame_FfnRef, fun m ρ _ => Cert.Outproj.Gen.frame m ρ, fun m ρ _ => Cert.OutprojIdeal.Gen.frame m ρ, frame_OutRef, fun m ρ _ => Cert.Modul.Gen.frame m ρ, fun m ρ _ => Cert.ModulIdeal.Gen.frame m ρ, frame_ModRef, fun m ρ _ => Cert.Inproj.Gen.frame m ρ, fun m ρ _ => Cert.InprojIdeal.Gen.frame m ρ, frame_InRef,
   IdealRules.named_const.statement Cert.AttnIdeal.κ "mask" .f32 0xF149F2CA#32 ⊥ rfl, trivial, trivial, trivial, trivial,
   algebraic_Attn, algebraic_Ffn, algebraic_Outproj, algebraic_Modul⟩
